-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S8x64x1024 : Shape := ⟨3, ![8, 64, 1024]⟩
abbrev S8 : Shape := ⟨1, ![8]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024, .bf16⟩
  | .hbm, ⟨3, _⟩ => ⟨S1024x1024, .bf16⟩
  | .hbm, ⟨4, _⟩ => ⟨S1x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .bf16⟩
  | .local _ .vmem, ⟨3, _⟩ => ⟨S1024x1024, .f32⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v16 : BitVec 32 := Scalar.muli v9 c8_i32_7
  let v17 : BitVec 32 := Scalar.addi c0_i32 v16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v18 : BitVec 32 := Scalar.muli v5 c4_i32_8
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v20 : BitVec 32 := Scalar.muli v8 c1_i32_9
  let v21 : BitVec 32 := Scalar.addi v19 v20
  v21.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v22 : BitVec 32 := Scalar.muli v2 c8_i32_11
  let v23 : BitVec 32 := Scalar.addi c0_i32_12 v22
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v24 : BitVec 32 := Scalar.muli v10 c4_i32_13
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v26 : BitVec 32 := Scalar.muli v8 c1_i32_14
  let v27 : BitVec 32 := Scalar.addi v25 v26
  v27.toNat
def k0_off1 (d0 : Dev nD) (c0_i32_16 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.xori v2 v5
  let v13 : BitVec 32 := Scalar.subi c1_i32_4 v11
  let c512_i32_5 : BitVec 32 := 512#32
  let v14 : BitVec 32 := Scalar.muli v13 c512_i32_5
  let v28 : BitVec 32 := Scalar.addi v14 c0_i32_16
  let c0_i32_26 : BitVec 32 := 0#32
  ![v28.toNat, 0]
def k0_dev3 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v29 : BitVec 32 := Scalar.muli v9 c8_i32_20
  let v30 : BitVec 32 := Scalar.addi c0_i32_21 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v31 : BitVec 32 := Scalar.muli v5 c4_i32_22
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v33 : BitVec 32 := Scalar.muli v8 c1_i32_23
  let v34 : BitVec 32 := Scalar.addi v32 v33
  v34.toNat
def k0_dev4 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v43 : BitVec 32 := Scalar.muli v9 c8_i32_30
  let v44 : BitVec 32 := Scalar.addi c0_i32_31 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v45 : BitVec 32 := Scalar.muli v5 c4_i32_32
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v47 : BitVec 32 := Scalar.muli v8 c1_i32_33
  let v48 : BitVec 32 := Scalar.addi v46 v47
  v48.toNat
def k0_dev5 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v57 : BitVec 32 := Scalar.muli v9 c8_i32_40
  let v58 : BitVec 32 := Scalar.addi c0_i32_41 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v59 : BitVec 32 := Scalar.muli v5 c4_i32_42
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v61 : BitVec 32 := Scalar.muli v8 c1_i32_43
  let v62 : BitVec 32 := Scalar.addi v60 v61
  v62.toNat
def k0_dev6 (d0 : Dev nD) : Nat :=
  let c0_i32_50 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_49 : BitVec 32 := 8#32
  let v71 : BitVec 32 := Scalar.muli v9 c8_i32_49
  let v72 : BitVec 32 := Scalar.addi c0_i32_50 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v73 : BitVec 32 := Scalar.muli v5 c4_i32_51
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v75 : BitVec 32 := Scalar.muli v8 c1_i32_52
  let v76 : BitVec 32 := Scalar.addi v74 v75
  v76.toNat
def k0_dev7 (d0 : Dev nD) : Nat :=
  let c0_i32_60 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_59 : BitVec 32 := 8#32
  let v85 : BitVec 32 := Scalar.muli v9 c8_i32_59
  let v86 : BitVec 32 := Scalar.addi c0_i32_60 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v87 : BitVec 32 := Scalar.muli v5 c4_i32_61
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v89 : BitVec 32 := Scalar.muli v8 c1_i32_62
  let v90 : BitVec 32 := Scalar.addi v88 v89
  v90.toNat
def k0_dev8 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v99 : BitVec 32 := Scalar.muli v9 c8_i32_68
  let v100 : BitVec 32 := Scalar.addi c0_i32_69 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v101 : BitVec 32 := Scalar.muli v5 c4_i32_70
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v103 : BitVec 32 := Scalar.muli v8 c1_i32_71
  let v104 : BitVec 32 := Scalar.addi v102 v103
  v104.toNat
def k0_dev9 (d0 : Dev nD) : Nat :=
  let c0_i32_78 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_77 : BitVec 32 := 8#32
  let v113 : BitVec 32 := Scalar.muli v9 c8_i32_77
  let v114 : BitVec 32 := Scalar.addi c0_i32_78 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v115 : BitVec 32 := Scalar.muli v5 c4_i32_79
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v117 : BitVec 32 := Scalar.muli v8 c1_i32_80
  let v118 : BitVec 32 := Scalar.addi v116 v117
  v118.toNat
def k0_dev10 (d0 : Dev nD) : Nat :=
  let c0_i32_87 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_86 : BitVec 32 := 8#32
  let v127 : BitVec 32 := Scalar.muli v9 c8_i32_86
  let v128 : BitVec 32 := Scalar.addi c0_i32_87 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v129 : BitVec 32 := Scalar.muli v5 c4_i32_88
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v131 : BitVec 32 := Scalar.muli v8 c1_i32_89
  let v132 : BitVec 32 := Scalar.addi v130 v131
  v132.toNat
def k0_off2 (d0 : Dev nD) (c0_i32_103 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.xori v2 v5
  let c512_i32 : BitVec 32 := 512#32
  let v12 : BitVec 32 := Scalar.muli v11 c512_i32
  let v151 : BitVec 32 := Scalar.addi v12 c0_i32_103
  let v152 : Index := Scalar.indexCast v151
  let c0 : Index := 0#32
  ![v152.toNat, 0]
def k0_dev11 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v186 : BitVec 32 := Scalar.muli v2 c8_i32_120
  let v187 : BitVec 32 := Scalar.addi c0_i32_121 v186
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_122 : BitVec 32 := 4#32
  let v188 : BitVec 32 := Scalar.muli v10 c4_i32_122
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v190 : BitVec 32 := Scalar.muli v8 c1_i32_123
  let v191 : BitVec 32 := Scalar.addi v189 v190
  v191.toNat
def k0_dev12 (d0 : Dev nD) : Nat :=
  let c0_i32_157 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_156 : BitVec 32 := 8#32
  let v246 : BitVec 32 := Scalar.muli v2 c8_i32_156
  let v247 : BitVec 32 := Scalar.addi c0_i32_157 v246
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_158 : BitVec 32 := 4#32
  let v248 : BitVec 32 := Scalar.muli v10 c4_i32_158
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v250 : BitVec 32 := Scalar.muli v8 c1_i32_159
  let v251 : BitVec 32 := Scalar.addi v249 v250
  v251.toNat
def k0_dev13 (d0 : Dev nD) : Nat :=
  let c0_i32_193 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_192 : BitVec 32 := 8#32
  let v306 : BitVec 32 := Scalar.muli v2 c8_i32_192
  let v307 : BitVec 32 := Scalar.addi c0_i32_193 v306
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_194 : BitVec 32 := 4#32
  let v308 : BitVec 32 := Scalar.muli v10 c4_i32_194
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v310 : BitVec 32 := Scalar.muli v8 c1_i32_195
  let v311 : BitVec 32 := Scalar.addi v309 v310
  v311.toNat
def k0_dev14 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v366 : BitVec 32 := Scalar.muli v2 c8_i32_228
  let v367 : BitVec 32 := Scalar.addi c0_i32_229 v366
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_230 : BitVec 32 := 4#32
  let v368 : BitVec 32 := Scalar.muli v10 c4_i32_230
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_231 : BitVec 32 := 1#32
  let v370 : BitVec 32 := Scalar.muli v8 c1_i32_231
  let v371 : BitVec 32 := Scalar.addi v369 v370
  v371.toNat
def k0_dev15 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v426 : BitVec 32 := Scalar.muli v2 c8_i32_264
  let v427 : BitVec 32 := Scalar.addi c0_i32_265 v426
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_266 : BitVec 32 := 4#32
  let v428 : BitVec 32 := Scalar.muli v10 c4_i32_266
  let v429 : BitVec 32 := Scalar.addi v427 v428
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v430 : BitVec 32 := Scalar.muli v8 c1_i32_267
  let v431 : BitVec 32 := Scalar.addi v429 v430
  v431.toNat
def k0_dev16 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_300 : BitVec 32 := 8#32
  let v486 : BitVec 32 := Scalar.muli v2 c8_i32_300
  let v487 : BitVec 32 := Scalar.addi c0_i32_301 v486
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_302 : BitVec 32 := 4#32
  let v488 : BitVec 32 := Scalar.muli v10 c4_i32_302
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v490 : BitVec 32 := Scalar.muli v8 c1_i32_303
  let v491 : BitVec 32 := Scalar.addi v489 v490
  v491.toNat
def k0_dev17 (d0 : Dev nD) : Nat :=
  let c0_i32_337 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_336 : BitVec 32 := 8#32
  let v546 : BitVec 32 := Scalar.muli v2 c8_i32_336
  let v547 : BitVec 32 := Scalar.addi c0_i32_337 v546
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_338 : BitVec 32 := 4#32
  let v548 : BitVec 32 := Scalar.muli v10 c4_i32_338
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v550 : BitVec 32 := Scalar.muli v8 c1_i32_339
  let v551 : BitVec 32 := Scalar.addi v549 v550
  v551.toNat
def k0_dev18 (d0 : Dev nD) : Nat :=
  let c0_i32_373 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_372 : BitVec 32 := 8#32
  let v606 : BitVec 32 := Scalar.muli v2 c8_i32_372
  let v607 : BitVec 32 := Scalar.addi c0_i32_373 v606
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_374 : BitVec 32 := 4#32
  let v608 : BitVec 32 := Scalar.muli v10 c4_i32_374
  let v609 : BitVec 32 := Scalar.addi v607 v608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v610 : BitVec 32 := Scalar.muli v8 c1_i32_375
  let v611 : BitVec 32 := Scalar.addi v609 v610
  v611.toNat
def k0_off3 (d0 : Dev nD) (c0_i32_395 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.xori v2 v5
  let v13 : BitVec 32 := Scalar.subi c1_i32_4 v11
  let c512_i32_5 : BitVec 32 := 512#32
  let v14 : BitVec 32 := Scalar.muli v13 c512_i32_5
  let v635 : BitVec 32 := Scalar.addi v14 c0_i32_395
  let v636 : Index := Scalar.indexCast v635
  let c0_396 : Index := 0#32
  ![v636.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S1024x1024, .bf16⟩
  | .hbm, ⟨2, _⟩ => ⟨S1024, .bf16⟩
  | .hbm, ⟨3, _⟩ => ⟨S2x1024x1024, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S1x1024, .f32⟩
  | .hbm, ⟨23, _⟩ => ⟨S1024x1024, .f32⟩
  | .hbm, ⟨24, _⟩ => ⟨S1024x1024, .f32⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.KernelIdeal.Steps.lean ====
/- The kernel body of one device, rewritten as a sequence of steps each of which is stated once for a chunk number
   `r : Fin 8`: the handshake, the copy of a chunk to the neighbour along x, the arithmetic of a chunk with its copy to
   the neighbour along y, the landing of a chunk from the neighbour along y, and the waits for the copies sent. -/
module

public import proofs.«01_k».proof.Proof.Gen.KernelIdeal.Skeleton
public import proofs.«01_k».proof.Proof.Gen.KernelIdeal.Frame

@[expose] public section

set_option maxRecDepth 16384

noncomputable section

namespace Cert.KernelIdeal.Norm

open Idealize.ShloMosaic Idealize.ShloMosaic.TcCoe
open Idealize.SL.Sem
open Cert.KernelIdeal Cert.KernelIdeal.Gen

variable {F : FTy → Type} [FloatOps F]

/-- The effects of the kernel's programs. -/
abbrev KProg (α : Type) := Prog (TpuEff nD τ sig (Elt F) Λ₀ .tc) α

/-! ## Neighbours, buffers, semaphores -/

/-- The neighbour along x: the device whose first coordinate is flipped. -/
def xn (c : Dev nD) : Dev nD := ⟨k0_dev1 c, k0_dev1_lt c⟩
/-- The neighbour along y: the device whose second coordinate is flipped. -/
def yn (c : Dev nD) : Dev nD := ⟨k0_dev2 c, k0_dev2_lt c⟩

theorem xn_xn (c : Dev nD) : xn (xn c) = c := by revert c; decide +kernel
theorem yn_yn (c : Dev nD) : yn (yn c) = c := by revert c; decide +kernel

/-- The partial sums of the device, the residual, the scale and the result; then the three chunked buffers. -/
abbrev pM : Memref sig .tc .vmem S1024x1024 .bf16 := Memref.whole cc0_stg0_0
abbrev rM : Memref sig .tc .vmem S1024x1024 .bf16 := Memref.whole cc0_stg1_0
abbrev gM : Memref sig .tc .vmem S1x1024 .bf16 := Memref.whole cc0_stg2_0
abbrev oM : Memref sig .tc .vmem S1024x1024 .f32 := Memref.whole cc0_stg3_0
abbrev prM : Memref sig .tc .vmem S8x64x1024 .bf16 := Memref.whole cc0_scratch0
abbrev ybM : Memref sig .tc .vmem S8x64x1024 .bf16 := Memref.whole cc0_scratch1
abbrev orM : Memref sig .tc .vmem S8x64x1024 .bf16 := Memref.whole cc0_scratch2

theorem inb_sem (r : Fin 8) : ∀ a, (![r.val] : Fin 1 → Nat) a + S1.size a ≤ S8.size a := by
  revert r; decide
theorem inb_slot (r : Fin 8) : ∀ a, (![r.val, 0, 0] : Fin 3 → Nat) a + S1x64x1024.size a ≤ S8x64x1024.size a := by
  revert r; decide

/-- The rectangle of slot `r` in a chunked buffer. -/
abbrev slotR (r : Fin 8) : Rect S8x64x1024 := Rect.unit (s := S8x64x1024) ![r.val, 0, 0] S1x64x1024.size (inb_slot r)
/-- Slot `r` of a chunked buffer as a matrix of 64 rows. -/
abbrev slot (M : Memref sig .tc .vmem S8x64x1024 .bf16) (r : Fin 8) : Memref sig .tc .vmem S64x1024 .bf16 :=
  (M.slice (slotR r) (fun _ => rfl)).squeeze S64x1024 squeezes_S1x64x1024_S64x1024
/-- Semaphore `r` of an array of eight. -/
abbrev semAt (A : DmaSems sig S8) (r : Fin 8) : DmaSem sig :=
  ((A.slice (Rect.unit (s := S8) ![r.val] S1.size (inb_sem r))).squeeze S_ squeezes_S1_S_).sem

/-- The rows of chunk `r` in the half sent to the neighbour along x. -/
abbrev sendR (c : Dev nD) (r : Fin 8) : Rect S1024x1024 :=
  Rect.unit (s := S1024x1024) (k0_off1 c (BitVec.ofNat 32 (64 * r.val))) S64x1024.size (k0_off1_inb c r)
/-- The rows of chunk `r` in the half this device computes. -/
abbrev ownR (c : Dev nD) (r : Fin 8) : Rect S1024x1024 :=
  Rect.unit (s := S1024x1024) (k0_off2 c (BitVec.ofNat 32 (64 * r.val))) S64x1024.size (k0_off2_inb c r)
/-- The rows of chunk `r` in the half the neighbour along y computes. -/
abbrev farR (c : Dev nD) (r : Fin 8) : Rect S1024x1024 :=
  Rect.unit (s := S1024x1024) (k0_off3 c (BitVec.ofNat 32 (64 * r.val))) S64x1024.size (k0_off3_inb c r)
/-- The rows of the partial sums which chunk `r`'s copy along x sends. -/
abbrev sendV (c : Dev nD) (r : Fin 8) : Memref sig .tc .vmem S64x1024 .bf16 := pM.slice (sendR c r) (fun _ => rfl)

abbrev xsS (r : Fin 8) : DmaSem sig := semAt cc0_scratch3 r
abbrev xrS (r : Fin 8) : DmaSem sig := semAt cc0_scratch4 r
abbrev ysS (r : Fin 8) : DmaSem sig := semAt cc0_scratch5 r
abbrev yrS (r : Fin 8) : DmaSem sig := semAt cc0_scratch6 r
abbrev barS : Sem sig := (SemArray.scalar (sig.barrier 0 rfl) : Sems sig S_).sem

theorem pr_words (r : Fin 8) : (slot prM r).view.WordExact := by
  fin_cases r <;> exact ((Memref.isWhole_whole cc0_scratch0).wordExact_slice rfl _ (by decide)).reshape _ _
theorem yb_words (r : Fin 8) : (slot ybM r).view.WordExact := by
  fin_cases r <;> exact ((Memref.isWhole_whole cc0_scratch1).wordExact_slice rfl _ (by decide)).reshape _ _
theorem or_words (r : Fin 8) : (slot orM r).view.WordExact := by
  fin_cases r <;> exact ((Memref.isWhole_whole cc0_scratch2).wordExact_slice rfl _ (by decide)).reshape _ _
theorem send_words (c : Dev nD) (r : Fin 8) : (sendV c r).view.WordExact :=
  (Memref.isWhole_whole cc0_stg0_0).wordExact_slice rfl _ (k0_off1_wordsbf16 c r)

theorem yb_stores (r : Fin 8) : ((Memref.whole cc0_scratch1 : Memref sig .tc .vmem S8x64x1024 .bf16).access (slotR r)).StoreExact Finset.univ := by
  fin_cases r <;> exact (Memref.isWhole_whole cc0_scratch1).storeExact_slice rfl _ (by decide)

/-! ## The arithmetic of a chunk -/

/-- The normalised rows of a chunk, from the device's rows of partial sums, the rows that arrived from the neighbour
    along x, the rows of the residual and the scale. -/
def rows (a : Vec F S64x1024 .bf16) (b : Vec F S1x64x1024 .bf16) (x : Vec F S64x1024 .bf16) (g : Vec F S1x1024 .bf16) :
    FVec F S64x1024 .f32 := k0_pay2 (k0_pay1 a b) x g
/-- The same rows as they are sent along y. -/
def rowsB (a : Vec F S64x1024 .bf16) (b : Vec F S1x64x1024 .bf16) (x : Vec F S64x1024 .bf16) (g : Vec F S1x1024 .bf16) :
    FVec F S1x64x1024 .bf16 := k0_pay3 (k0_pay1 a b) x g
/-- The rows that arrived along y, as they are stored. -/
def back (b : Vec F S1x64x1024 .bf16) : FVec F S64x1024 .f32 := k0_pay27 b

/-! ## The steps -/

/-- The handshake: one signal to each neighbour, then a wait for two. -/
def hello (c : Dev nD) : KProg (F := F) PUnit := do
  semSignalWord (xn c) barS 1#32
  semSignalWord (yn c) barS 1#32
  semWaitWord barS 2#32

/-- Chunk `r` of the partial sums leaves for the neighbour along x. -/
def push (c : Dev nD) (r : Fin 8) : KProg (F := F) PUnit :=
  Prog.lift (.enqueueDma (sendV c r) (.remote (Dev.tc (xn c)) (slot prM r) (.dma (xsS r))) (.dma (xrS r))
    (send_words c r) (pr_words r) ⟨⟨rfl, Or.inl rfl⟩, trivial⟩)

/-- Chunk `r` has arrived from the neighbour along x: its rows are summed, normalised, stored in the result, and sent to
    the neighbour along y. -/
def chunk (c : Dev nD) (r : Fin 8) : KProg (F := F) PUnit := do
  Prog.lift (.waitDma2 (xrS r) (sendV c r) (slot prM r) (send_words c r) (pr_words r))
  let a : Vec F S64x1024 .bf16 ← Prog.lift (.load pM (ownR c r).toLoadRect (View.loadsAt_vmem h_S64x1024))
  let b : Vec F S1x64x1024 .bf16 ← Prog.lift (.load prM (slotR r).toLoadRect (View.loadsAt_vmem h_S1x64x1024))
  let x : Vec F S64x1024 .bf16 ← Prog.lift (.load rM (ownR c r).toLoadRect (View.loadsAt_vmem h_S64x1024))
  let g : Vec F S1x1024 .bf16 ← Prog.lift (.load gM (Rect.unit (s := S1x1024) ![0, 0] S1x1024.size inb_S1x1024_S1x1024_0_0).toLoadRect
    (View.loadsAt_vmem h_S1x1024))
  let _ : Vec F S64x1024 .f32 ← Prog.lift (.load oM (ownR c r).toLoadRect (View.loadsAt_vmem h_S64x1024))
  Prog.lift (.store oM (ownR c r) (rows a b x g) Finset.univ (View.stores_vmem_bits_univ h_S64x1024 rfl) (.inl rfl))
  let _ : Vec F S1x64x1024 .bf16 ← Prog.lift (.load ybM (slotR r).toLoadRect (View.loadsAt_vmem h_S1x64x1024))
  Prog.lift (.store ybM (slotR r) (rowsB a b x g) Finset.univ
    (View.stores_vmem h_S1x64x1024 (yb_stores r) (fun _ => rfl)) (.inl rfl))
  Prog.lift (.enqueueDma (slot ybM r) (.remote (Dev.tc (yn c)) (slot orM r) (.dma (ysS r))) (.dma (yrS r))
    (yb_words r) (or_words r) ⟨⟨rfl, Or.inl rfl⟩, trivial⟩)

/-- Chunk `r` has arrived from the neighbour along y: it is stored in the result. -/
def land (c : Dev nD) (r : Fin 8) : KProg (F := F) PUnit := do
  Prog.lift (.waitDma2 (yrS r) (slot ybM r) (slot orM r) (yb_words r) (or_words r))
  let b : Vec F S1x64x1024 .bf16 ← Prog.lift (.load orM (slotR r).toLoadRect (View.loadsAt_vmem h_S1x64x1024))
  let _ : Vec F S64x1024 .f32 ← Prog.lift (.load oM (farR c r).toLoadRect (View.loadsAt_vmem h_S64x1024))
  Prog.lift (.store oM (farR c r) (back b) Finset.univ (View.stores_vmem_bits_univ h_S64x1024 rfl) (.inl rfl))

/-- The two copies of chunk `r` this device sent have left. -/
def left (c : Dev nD) (r : Fin 8) : KProg (F := F) PUnit := do
  Prog.lift (.waitDma2 (xsS r) (slot prM r) (sendV c r) (pr_words r) (send_words c r))
  Prog.lift (.waitDma2 (ysS r) (slot orM r) (slot ybM r) (or_words r) (yb_words r))

/-- A step once for every chunk of a list, in its order. -/
def each (f : Fin 8 → KProg (F := F) PUnit) : List (Fin 8) → KProg (F := F) PUnit
  | [] => pure ⟨⟩
  | r :: l => do f r; each f l

/-- The chunk numbers in order. -/
abbrev chunks : List (Fin 8) := [0, 1, 2, 3, 4, 5, 6, 7]

/-- The body of device `c`. -/
def steps (c : Dev nD) : KProg (F := F) PUnit := do
  hello c
  each (push c) chunks
  each (chunk c) chunks
  each (land c) chunks
  each (left c) chunks

end Cert.KernelIdeal.Norm

end
-- ==== Proof.KernelIdeal.BodyEq.lean ====
module

public import proofs.«01_k».proof.Proof.KernelIdeal.Steps

@[expose] public section

noncomputable section

namespace Cert.KernelIdeal.Norm

open Idealize.ShloMosaic Idealize.ShloMosaic.TcCoe
open Idealize.SL.Sem
open Cert.KernelIdeal Cert.KernelIdeal.Gen

variable {F : FTy → Type} [FloatOps F]

/-- Two programs that begin with the same effect are equal if they continue equally. -/
theorem op_step.{v} {E : Type → Type v} {α β : Type} {e e' : E β} {k k' : β → Prog E α} (he : e = e') (hk : ∀ x, k x = k' x) :
    Prog.op e k = Prog.op e' k' := by subst he; exact congrArg _ (funext hk)

set_option backward.isDefEq.respectTransparency false in
set_option maxHeartbeats 4000000 in
set_option maxRecDepth 100000 in
/-- The printed body is the sequence of steps. -/
theorem body_eq_steps :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6
      = .op .deviceId steps := by
  rw [cc0_body_eq_skeleton]
  unfold cc0_body_skel
  rw [k0_part27_eq_skeleton]
  unfold k0_part27_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, Prog.bind_assoc]
  refine op_step rfl fun c => ?_
  simp only [steps, hello, each, push, chunk, land, left, chunks, semSignalWord, semWaitWord, Prog.lift, Prog.bind_op, Prog.bind_ret, Prog.pure_eq_ret, Prog.bind_assoc]
  repeat (refine op_step rfl fun _ => ?_)
  rfl

end Cert.KernelIdeal.Norm

end
-- ==== Proof.KernelIdeal.Views.lean ====
/- Where the chunks lie: the row numbers of each chunk's rectangles, which of them are apart, what a chunk's slot reads
   after a copy or a store, and the result of the body as a matrix. No program and no logic here. -/
module

public import proofs.«01_k».proof.Proof.KernelIdeal.Steps
public import Idealize.ShloMosaic.Lib.Ring
public import Idealize.ShloMosaic.Lib.Pipeline.Value

@[expose] public section

set_option maxRecDepth 16384

noncomputable section

namespace Cert.KernelIdeal.Norm

open Idealize.ShloMosaic Idealize.ShloMosaic.TcCoe
open Cert.KernelIdeal Cert.KernelIdeal.Gen

variable {F : FTy → Type} [FloatOps F]

/-! ## Row numbers -/

/-- Which half of the rows device `c` computes: the exclusive or of its first two coordinates. -/
def half (c : Dev nD) : ℕ := (c.val / 8 + c.val / 4) % 2

theorem half_lt (c : Dev nD) : half c < 2 := Nat.mod_lt _ (by decide)
theorem half_xn (c : Dev nD) : half (xn c) = 1 - half c := by revert c; decide +kernel
theorem half_yn (c : Dev nD) : half (yn c) = 1 - half c := by revert c; decide +kernel

theorem own_off (c : Dev nD) (r : Fin 8) : k0_off2 c (BitVec.ofNat 32 (64 * r.val)) = ![512 * half c + 64 * r.val, 0] := by
  revert c r; decide +kernel
theorem far_off (c : Dev nD) (r : Fin 8) : k0_off3 c (BitVec.ofNat 32 (64 * r.val)) = ![512 * (1 - half c) + 64 * r.val, 0] := by
  revert c r; decide +kernel
theorem send_off (c : Dev nD) (r : Fin 8) : k0_off1 c (BitVec.ofNat 32 (64 * r.val)) = ![512 * (1 - half c) + 64 * r.val, 0] := by
  revert c r; decide +kernel

/-- Row blocks of 64 rows whose first rows differ by a multiple of 64 are apart. -/
theorem rows_apart {o o' : Fin 2 → ℕ} {h h'} (a b : ℕ) (ho : o 0 = 64 * a) (ho' : o' 0 = 64 * b) (hab : a ≠ b) :
    Disjoint (Rect.unit (s := S1024x1024) o S64x1024.size h).set (Rect.unit (s := S1024x1024) o' S64x1024.size h').set := by
  refine Rect.unit_disjoint (0 : Fin 2) ?_
  show o 0 + 64 ≤ o' 0 ∨ o' 0 + 64 ≤ o 0
  rw [ho, ho']; omega

theorem own_own (c : Dev nD) {r r' : Fin 8} (h : r ≠ r') : Disjoint (ownR c r).set (ownR c r').set :=
  rows_apart (8 * half c + r.val) (8 * half c + r'.val) (by rw [own_off]; show 512 * half c + 64 * r.val = _; omega)
    (by rw [own_off]; show 512 * half c + 64 * r'.val = _; omega) (fun e => h (Fin.ext (by omega)))
theorem far_far (c : Dev nD) {r r' : Fin 8} (h : r ≠ r') : Disjoint (farR c r).set (farR c r').set :=
  rows_apart (8 * (1 - half c) + r.val) (8 * (1 - half c) + r'.val) (by rw [far_off]; show 512 * (1 - half c) + 64 * r.val = _; omega)
    (by rw [far_off]; show 512 * (1 - half c) + 64 * r'.val = _; omega) (fun e => h (Fin.ext (by omega)))
theorem send_send (c : Dev nD) {r r' : Fin 8} (h : r ≠ r') : Disjoint (sendR c r).set (sendR c r').set :=
  rows_apart (8 * (1 - half c) + r.val) (8 * (1 - half c) + r'.val) (by rw [send_off]; show 512 * (1 - half c) + 64 * r.val = _; omega)
    (by rw [send_off]; show 512 * (1 - half c) + 64 * r'.val = _; omega) (fun e => h (Fin.ext (by omega)))
theorem own_far (c : Dev nD) (r r' : Fin 8) : Disjoint (ownR c r).set (farR c r').set :=
  rows_apart (8 * half c + r.val) (8 * (1 - half c) + r'.val) (by rw [own_off]; show 512 * half c + 64 * r.val = _; omega)
    (by rw [far_off]; show 512 * (1 - half c) + 64 * r'.val = _; omega)
    (by have := half_lt c; have := r.isLt; have := r'.isLt; omega)

/-! ## The slots of a chunked buffer -/

/-- The elements of a slot are those of its rectangle. -/
theorem slot_set (M : Memref sig .tc .vmem S8x64x1024 .bf16) (r : Fin 8) :
    (slot M r).view.set = (M.view.slice (slotR r)).set := View.set_reshape _ _

theorem slot_apart (r r' : Fin 8) (h : r ≠ r') : Disjoint (slotR r).set (slotR r').set :=
  Ring.lead_disjoint (s := S8x64x1024) (NB := 8) (0 : Fin 3) 1 (fun r => ![r.val, 0, 0]) S1x64x1024.size inb_slot
    (fun b => (Nat.one_mul _).symm) rfl r r' h
theorem slot_cover : Finset.univ.biUnion (fun r => (slotR r).set) = Finset.univ :=
  Ring.lead_cover (s := S8x64x1024) (NB := 8) (0 : Fin 3) 1 (fun r => ![r.val, 0, 0]) S1x64x1024.size inb_slot
    (fun b => (Nat.one_mul _).symm) (fun b a ha => by fin_cases a <;> first | exact absurd rfl ha | rfl) rfl
    (fun a ha => by fin_cases a <;> first | exact absurd rfl ha | rfl) rfl

theorem casts_up : S64x1024.ShapeCasts S1x64x1024 := shapeCasts_S64x1024_S1x64x1024

/-- A slot read through its rectangle is the slot's matrix under a leading axis of size one. -/
theorem read_slotR (M : Memref sig .tc .vmem S8x64x1024 .bf16) (r : Fin 8) (f : M.view.ty.Contents (Elt F)) :
    M.view.readAt (Elt F) (slotR r).toLoadRect f = shapeCast S1x64x1024 ((slot M r).view.read (Elt F) f) casts_up := by
  funext x
  show M.view.read (Elt F) f ((slotR r).emb x) = M.view.read (Elt F) f ((slotR r).emb (Shape.reshapeEquiv _ (Shape.reshapeEquiv _ x)))
  rw [Shape.reshapeEquiv_reshapeEquiv, Shape.reshapeEquiv_self]

/-- A slot filled by a copy reads the copied rows. -/
theorem read_landed (M : Memref sig .tc .vmem S8x64x1024 .bf16) (r : Fin 8) (f : M.view.ty.Contents (Elt F)) (w : Vec F S64x1024 .bf16) :
    M.view.readAt (Elt F) (slotR r).toLoadRect ((slot M r).view.write (Elt F) f w Finset.univ) = shapeCast S1x64x1024 w casts_up := by
  rw [read_slotR, View.read_write_univ]

/-- A slot filled by a store reads the stored rows. -/
theorem read_stored (M : Memref sig .tc .vmem S8x64x1024 .bf16) (r : Fin 8) (f : M.view.ty.Contents (Elt F)) (w : Vec F S1x64x1024 .bf16) :
    M.view.readAt (Elt F) (slotR r).toLoadRect ((M.access (slotR r)).write (Elt F) f w Finset.univ) = w :=
  View.read_write_univ (v := M.view.slice (slotR r)) f w

/-! ## The result's rows -/

/-- Rows read where they were just stored. -/
theorem read_rows_same (ρ : Rect S1024x1024) (f : (cc0_stg3_0 : Ref sig .tc).ty.Contents (Elt F)) (w : ρ.shape.Idx → Elt F .f32) :
    oM.view.readAt (Elt F) ρ.toLoadRect ((oM.access ρ).write (Elt F) f w Finset.univ) = w :=
  View.read_write_univ (v := oM.view.slice ρ) f w
/-- Rows read where nothing was stored. -/
theorem read_rows_apart (ρ ρ' : Rect S1024x1024) (h : Disjoint ρ.set ρ'.set) (f : (cc0_stg3_0 : Ref sig .tc).ty.Contents (Elt F))
    (w : ρ'.shape.Idx → Elt F .f32) :
    oM.view.readAt (Elt F) ρ.toLoadRect ((oM.access ρ').write (Elt F) f w Finset.univ) = oM.view.readAt (Elt F) ρ.toLoadRect f :=
  View.read_slice_write_slice_of_disjoint (v := oM.view) ρ ρ' f w Finset.univ (by
    rw [View.setOn_univ]
    show Disjoint ((View.whole cc0_stg3_0).slice ρ).set ((View.whole cc0_stg3_0).slice ρ').set
    rw [View.set_slice_whole, View.set_slice_whole]; exact h)

end Cert.KernelIdeal.Norm

end
-- ==== Proof.KernelIdeal.Protocol.lean ====
/- What the devices promise each other: the value of every chunk, the resources each semaphore hands over, the credit each
   device owes when the kernel starts, and the order in which a device may wait. -/
module

public import proofs.«01_k».proof.Proof.KernelIdeal.Views
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The ghost state: the pipeline's rounds beside the rounds of the kernel's own semaphores, whose duties are booleans. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Values -/

/-- What the devices hold when the kernel starts: their partial sums, residuals and scales. -/
structure Staged (F : FTy → Type) where
  p : Dev nD → (cc0_stg0_0 : Ref sig .tc).ty.Contents (Elt F)
  x : Dev nD → (cc0_stg1_0 : Ref sig .tc).ty.Contents (Elt F)
  g : Dev nD → (cc0_stg2_0 : Ref sig .tc).ty.Contents (Elt F)

namespace Staged
variable (D : Staged F) (c : Dev nD) (r : Fin 8)

/-- The rows of partial sums device `c` sends along x in chunk `r`. -/
def sent : Vec F S64x1024 .bf16 := (sendV c r).view.read (Elt F) (D.p c)
/-- What arrives along x in chunk `r`. -/
def got : Vec F S1x64x1024 .bf16 := shapeCast S1x64x1024 (D.sent (xn c) r) casts_up
/-- The device's own rows of partial sums and of the residual, and the scale. -/
def ownP : Vec F S64x1024 .bf16 := pM.view.readAt (Elt F) (ownR c r).toLoadRect (D.p c)
def ownX : Vec F S64x1024 .bf16 := rM.view.readAt (Elt F) (ownR c r).toLoadRect (D.x c)
def gam : Vec F S1x1024 .bf16 :=
  gM.view.readAt (Elt F) (Rect.unit (s := S1x1024) ![0, 0] S1x1024.size inb_S1x1024_S1x1024_0_0).toLoadRect (D.g c)
/-- The normalised rows of chunk `r`, and the same rows as they go along y. -/
def out : FVec F S64x1024 .f32 := rows (D.ownP c r) (D.got c r) (D.ownX c r) (D.gam c)
def outB : FVec F S1x64x1024 .bf16 := rowsB (D.ownP c r) (D.got c r) (D.ownX c r) (D.gam c)
/-- The rows of chunk `r` that arrive along y, as stored. -/
def far : FVec F S64x1024 .f32 := back (D.outB (yn c) r)

end Staged

/-! ## Cells -/

/-- Copy semaphore `r` of array `k`: 0 and 1 the x copies' sending and receiving side, 2 and 3 the y copies'. -/
abbrev dsem (k : Fin 4) (r : Fin 8) : SemLoc sig := .dma (match k with | 0 => xsS r | 1 => xrS r | 2 => ysS r | 3 => yrS r)
abbrev barCell (c : Dev nD) : GSem nD τ sig := ((c : Thread nD τ), .reg barS)
abbrev cell (k : Fin 4) (c : Dev nD) (r : Fin 8) : GSem nD τ sig := ((c : Thread nD τ), dsem k r)

/-- What a semaphore is for. -/
inductive Role where
  | bar | copy (k : Fin 4) (r : Fin 8) | idle
deriving DecidableEq

def role : SemLoc sig → Role
  | .reg s => if s = barS then .bar else .idle
  | .dma s => if 4 ≤ s.val then .copy (Fin.ofNat 4 ((s.val - 4) / 8)) (Fin.ofNat 8 ((s.val - 4) % 8)) else .idle

theorem role_bar : role (.reg barS) = .bar := by decide +kernel
theorem role_copy (k : Fin 4) (r : Fin 8) : role (dsem k r) = .copy k r := by revert k r; decide +kernel

/-- The credit of one chunk's copy. -/
abbrev N : ℕ := (slot prM (0 : Fin 8)).view.dmaCredit
theorem N_pos : 0 < N := View.dmaCredit_pos _ (by decide)

/-! ## Payloads -/

/-- Slot `r` of a chunked buffer on device `c`, with some contents. -/
def someSlot (M : Memref sig .tc .vmem S8x64x1024 .bf16) (c : Dev nD) (r : Fin 8) : sProp 𝕄 :=
  iprop(∃ f : Buf (Elt F) (M.view.loc (c : Thread nD τ)), M.view.loc (c : Thread nD τ) ↦[(slot M r).view.set]{fullShare} f)
/-- Slot `r` of a chunked buffer on device `c`, reading `w`. -/
def heldSlot (M : Memref sig .tc .vmem S8x64x1024 .bf16) (c : Dev nD) (r : Fin 8) (w : Vec F S1x64x1024 .bf16) : sProp 𝕄 :=
  iprop(∃ f : Buf (Elt F) (M.view.loc (c : Thread nD τ)), ⌜M.view.readAt (Elt F) (slotR r).toLoadRect f = w⌝
    ∗ (M.view.loc (c : Thread nD τ) ↦[(slot M r).view.set]{fullShare} f))
/-- Half a share of the rows chunk `r`'s copy along x sends. -/
def sendPts (D : Staged F) (c : Dev nD) (r : Fin 8) : sProp 𝕄 :=
  (sendV c r).view.loc (c : Thread nD τ) ↦[(sendV c r).view.set]{fullShare.right} D.p c
/-- A whole chunked buffer on device `c`, cut into its slots. -/
def someBuf (M : Memref sig .tc .vmem S8x64x1024 .bf16) (c : Dev nD) : sProp 𝕄 := bigSep Finset.univ fun r => someSlot (F := F) M c r

/-- What a device gives its neighbour along x with its signal: its landing buffer, ready. -/
def giveX (c : Dev nD) : sProp 𝕄 := iprop(someBuf (F := F) prM c ∗ bigSep Finset.univ fun r => reached ER (cell 1 c r) 0)
/-- What a device gives its neighbour along y with its signal: its other landing buffer, ready. -/
def giveY (c : Dev nD) : sProp 𝕄 := iprop(someBuf (F := F) orM c ∗ bigSep Finset.univ fun r => reached ER (cell 3 c r) 0)

/-- What a copy's semaphore hands to the device it lies on. -/
def copyPay (D : Staged F) (c : Dev nD) (k : Fin 4) (r : Fin 8) : sProp 𝕄 :=
  match k with
  | 0 => sendPts D c r
  | 1 => heldSlot prM c r (D.got c r)
  | 2 => someSlot ybM c r
  | 3 => heldSlot orM c r (D.outB (yn c) r)

section
variable (D : Staged F)
instance (M : Memref sig .tc .vmem S8x64x1024 .bf16) (c : Dev nD) (r : Fin 8) : BI.Storable (upEmb : UEmb _ 𝕄) (someSlot (F := F) M c r) := by
  unfold someSlot; infer_instance
instance (M : Memref sig .tc .vmem S8x64x1024 .bf16) (c : Dev nD) (r : Fin 8) (w) : BI.Storable (upEmb : UEmb _ 𝕄) (heldSlot (F := F) M c r w) := by
  unfold heldSlot; infer_instance
instance (M : Memref sig .tc .vmem S8x64x1024 .bf16) (c : Dev nD) : BI.Storable (upEmb : UEmb _ 𝕄) (someBuf (F := F) M c) := by
  unfold someBuf; infer_instance
instance (c : Dev nD) : BI.Storable (upEmb : UEmb _ 𝕄) (giveX (F := F) c) := by unfold giveX; infer_instance
instance (c : Dev nD) : BI.Storable (upEmb : UEmb _ 𝕄) (giveY (F := F) c) := by unfold giveY; infer_instance
instance (c : Dev nD) (r : Fin 8) : BI.Storable (upEmb : UEmb _ 𝕄) (sendPts D c r) := by unfold sendPts; infer_instance
instance (c : Dev nD) (k : Fin 4) (r : Fin 8) : BI.Storable (upEmb : UEmb _ 𝕄) (copyPay D c k r) := by
  unfold copyPay; split <;> infer_instance
end

/-! ## The schedule -/

/-- One round. A handshake semaphore expects one unit from each neighbour; every copy semaphore one copy's credit. -/
def sched (D : Staged F) : Rounds.Schedule (GSem nD τ sig) Bool 𝕄 where
  duties g n := if n = 0 ∧ g.1.2 = .tc then (match role g.2 with | .bar => Finset.univ | .copy _ _ => {false} | .idle => ∅) else ∅
  unitless _ := False
  amount g _ _ := match role g.2 with | .bar => 1 | _ => N
  payload g _ d := match role g.2 with
    | .bar => if d then giveX (xn g.1.1) else giveY (yn g.1.1)
    | .copy k r => copyPay D g.1.1 k r
    | .idle => iprop(emp)
  amount_pos g _ _ _ := by
    cases role g.2
    · exact Nat.one_pos
    all_goals exact N_pos

instance sched_storable (D : Staged F) (g : GSem nD τ sig) (n : ℕ) (d : Bool) :
    BI.Storable (upEmb : UEmb _ 𝕄) ((sched D).payload g n d) := by
  show BI.Storable upEmb (match role g.2 with
    | .bar => if d then giveX (xn g.1.1) else giveY (yn g.1.1)
    | .copy k r => copyPay D g.1.1 k r
    | .idle => iprop(emp))
  (repeat' split) <;> infer_instance

section Sched
variable (D : Staged F) (c : Dev nD) (k : Fin 4) (r : Fin 8)

theorem duties_bar : (sched D).duties (barCell c) 0 = Finset.univ := by
  dsimp only [sched]; rw [if_pos ⟨rfl, rfl⟩, role_bar]
theorem duties_copy : (sched D).duties (cell k c r) 0 = {false} := by
  dsimp only [sched]; rw [if_pos ⟨rfl, rfl⟩, role_copy]
theorem duties_later (g : GSem nD τ sig) : ∀ n, 1 ≤ n → (sched D).duties g n = ∅ :=
  fun n hn => by dsimp only [sched]; rw [if_neg fun h => by omega]
theorem amount_bar (d : Bool) : (sched D).amount (barCell c) 0 d = 1 := by dsimp only [sched]; rw [role_bar]
theorem amount_copy (d : Bool) : (sched D).amount (cell k c r) 0 d = N := by dsimp only [sched]; rw [role_copy]
theorem expect_bar : (sched D).expect (barCell c) 0 = 2 := by
  unfold Schedule.expect Schedule.amountOf
  rw [duties_bar, Finset.sum_congr rfl fun d _ => amount_bar D c d, Finset.sum_const, Finset.card_univ, Fintype.card_bool, smul_eq_mul]
theorem expect_copy : (sched D).expect (cell k c r) 0 = N := by
  unfold Schedule.expect Schedule.amountOf; rw [duties_copy, Finset.sum_singleton, amount_copy]
theorem payload_bar (d : Bool) : (sched D).payload (barCell c) 0 d = if d then giveX (xn c) else giveY (yn c) := by
  dsimp only [sched]; rw [role_bar]
theorem payload_copy (d : Bool) : (sched D).payload (cell k c r) 0 d = copyPay D c k r := by
  dsimp only [sched]; rw [role_copy]
/-- All a handshake semaphore hands over: both neighbours' landing buffers. -/
theorem rest_bar : bigSep ((sched D).duties (barCell c) 0 \ ∅) (fun d => (sched D).payload (barCell c) 0 d)
    = iprop(giveY (yn c) ∗ giveX (xn c)) := by
  rw [Finset.sdiff_empty, duties_bar, bigSep_univ_eq_bigSepL [false, true] (by decide) (by decide), bigSepL_cons_cons, bigSepL_singleton,
    payload_bar, payload_bar]
  rfl
theorem rest_copy : bigSep ((sched D).duties (cell k c r) 0 \ ∅) (fun d => (sched D).payload (cell k c r) 0 d) = copyPay D c k r := by
  rw [Finset.sdiff_empty, duties_copy, bigSep_singleton, payload_copy]
end Sched

/-! ## What is owed, and the levels -/

/-- The credit device `c` still owes its neighbour along x, for the chunks of a list. -/
def owedX (c : Dev nD) : List (Fin 8) → CellTallies nD τ sig Unit
  | [] => 0
  | r :: l => owedX c l + tallyAt (cell 1 (xn c) r) () N
/-- The credit device `c` still owes its neighbour along y, for the chunks of a list. -/
def owedY (c : Dev nD) : List (Fin 8) → CellTallies nD τ sig Unit
  | [] => 0
  | r :: l => owedY c l + tallyAt (cell 3 (yn c) r) () N
/-- What is owed after both signals. -/
def owed₂ (c : Dev nD) : CellTallies nD τ sig Unit := owedY c chunks + owedX c chunks
/-- What is owed when the kernel starts: the copies' credit, then the two signals. -/
def owed₀ (c : Dev nD) : CellTallies nD τ sig Unit := owed₂ c + tallyAt (barCell (yn c)) () 1 + tallyAt (barCell (xn c)) () 1

def L (g : GSem nD τ sig) : Finset Unit := if g.1.2 = .tc then {()} else ∅
/-- Handshakes come first, then the arrivals along x, then those along y; nothing is owed while waiting on the others. -/
def lv (g : GSem nD τ sig) (_ : Unit) : ℕ := match role g.2 with | .bar => 1 | .copy k _ => (match k with | 1 => 2 | 3 => 3 | _ => 0) | .idle => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_copy (k : Fin 4) (c : Dev nD) (r : Fin 8) (u : Unit) : lv (cell k c r) u = (match k with | 1 => 2 | 3 => 3 | _ => 0) := by
  unfold lv; rw [role_copy]

/-- Where credit lies on one cell only, that cell. -/
theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h
theorem add_pos' {A B : CellTallies nD τ sig Unit} {g : GSem nD τ sig} {u : Unit} (h : 0 < (A + B) g u) : 0 < A g u ∨ 0 < B g u := by
  rw [Pi.add_apply, Finsupp.add_apply] at h; omega

theorem owedX_pos (c : Dev nD) {g : GSem nD τ sig} {u : Unit} : ∀ l : List (Fin 8), 0 < owedX c l g u → ∃ r, g = cell 1 (xn c) r
  | [], h => absurd h (Nat.lt_irrefl 0)
  | r :: l, h => (add_pos' h).elim (owedX_pos c l) fun h => ⟨r, tallyAt_pos h⟩
theorem owedY_pos (c : Dev nD) {g : GSem nD τ sig} {u : Unit} : ∀ l : List (Fin 8), 0 < owedY c l g u → ∃ r, g = cell 3 (yn c) r
  | [], h => absurd h (Nat.lt_irrefl 0)
  | r :: l, h => (add_pos' h).elim (owedY_pos c l) fun h => ⟨r, tallyAt_pos h⟩
theorem owed₂_pos (c : Dev nD) {g : GSem nD τ sig} {u : Unit} (h : 0 < owed₂ c g u) :
    (∃ r, g = cell 1 (xn c) r) ∨ ∃ r, g = cell 3 (yn c) r := by
  rcases add_pos' h with h | h
  · exact .inr (owedY_pos c _ h)
  · exact .inl (owedX_pos c _ h)
theorem owed₀_pos (c : Dev nD) {g : GSem nD τ sig} {u : Unit} (h : 0 < owed₀ c g u) :
    (∃ d, g = barCell d) ∨ (∃ d r, g = cell 1 d r) ∨ ∃ d r, g = cell 3 d r := by
  rcases add_pos' h with h | h
  · rcases add_pos' h with h | h
    · rcases owed₂_pos c h with ⟨r, h⟩ | ⟨r, h⟩
      · exact .inr (.inl ⟨_, r, h⟩)
      · exact .inr (.inr ⟨_, r, h⟩)
    · exact .inl ⟨_, tallyAt_pos h⟩
  · exact .inl ⟨_, tallyAt_pos h⟩

theorem mem_L {g : GSem nD τ sig} (u : Unit) (h : g.1.2 = .tc) : u ∈ L g := by
  unfold L; rw [if_pos h]; exact Finset.mem_singleton_self _

/-- A device may wait on a semaphore below everything it owes. -/
theorem mayWait_below (c : Dev nD) (sm : SemLoc sig) (O : CellTallies nD τ sig Unit) (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp]; exact mem_L _ rfl)
    (fun g u hg => mem_L u (hO g u hg).1) (fun p hp => by rw [Finset.mem_singleton.mp hp]; exact hn) (fun g u hg => (hO g u hg).2)

/-- Waiting on a staging semaphore at any time. -/
theorem mayWait_stage (c : Dev nD) (q : DmaSem sig) (hq : role (.dma q) = .idle) (O : CellTallies nD τ sig Unit) (hO : O = owed₀ c ∨ O = 0) :
    (levAts L lv : sProp 𝕄) ⊢ MayWait (c : Thread nD τ) (.dma q) () O := by
  rcases hO with rfl | rfl
  · refine mayWait_below c _ _ 0 (by unfold lv; rw [hq]) fun g u h => ?_
    rcases owed₀_pos c h with ⟨d, rfl⟩ | ⟨d, r, rfl⟩ | ⟨d, r, rfl⟩
    · exact ⟨rfl, by rw [lv_bar]; decide⟩
    · exact ⟨rfl, by rw [lv_copy]; decide⟩
    · exact ⟨rfl, by rw [lv_copy]; decide⟩
  · rw [MayWait_zero]; iintro -; iempintro

/-- Waiting for the handshake, the copies' credit still owed. -/
theorem mayWait_bar (c : Dev nD) : (levAts L lv : sProp 𝕄) ⊢ MayWait (c : Thread nD τ) (.reg barS) () (owed₂ c) :=
  mayWait_below c _ _ 1 (by rw [lv_bar]) fun g u h => by
    rcases owed₂_pos c h with ⟨r, rfl⟩ | ⟨r, rfl⟩
    · exact ⟨rfl, by rw [lv_copy]; decide⟩
    · exact ⟨rfl, by rw [lv_copy]; decide⟩
/-- Waiting for an arrival along x, only copies along y still owed. -/
theorem mayWait_x (c : Dev nD) (r : Fin 8) (l : List (Fin 8)) :
    (levAts L lv : sProp 𝕄) ⊢ MayWait (c : Thread nD τ) (dsem 1 r) () (owedY c l) :=
  mayWait_below c _ _ 2 (by rw [lv_copy]; exact Nat.le_refl _) fun g u h => by
    obtain ⟨r, rfl⟩ := owedY_pos c l h
    exact ⟨rfl, by rw [lv_copy]; decide⟩

end Cert.KernelIdeal.Norm

end
-- ==== Proof.KernelIdeal.Rules.lean ====
/- The steps of the body, each proved once for a chunk number, and the rule that runs a step over a list of chunks. -/
module

public import proofs.«01_k».proof.Proof.KernelIdeal.Protocol
public import Idealize.ShloMosaic.Lib.Pipeline.BigSepL

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-- The weakest precondition of a program of device `c`. -/
abbrev wpc (c : Dev nD) {α : Type} (p : KProg (F := F) α) (Q : α → sProp 𝕄) : sProp 𝕄 :=
  wp frame (wpE (defs₀ (F := F)) 𝒱₀ (c : Thread nD τ) none) Set.univ p Q

/-! ## A step over a list of chunks -/

/-- If a step turns `A r` into `B r` for every chunk `r`, and the rest `I` of what the device holds from the remaining
    chunks' before it to the remaining chunks' after it, then the steps over a list do so for the whole list. -/
theorem wp_each (c : Dev nD) (Kn : sProp 𝕄) [BI.Persistent Kn] (f : Fin 8 → KProg (F := F) PUnit) (A B : Fin 8 → sProp 𝕄)
    (I : List (Fin 8) → sProp 𝕄)
    (h : ∀ r l (Q : PUnit → sProp 𝕄), iprop(Kn ∗ A r ∗ I (r :: l) ∗ ((B r ∗ I l) -∗ Q ⟨⟩)) ⊢ wpc c (f r) Q) :
    ∀ (l : List (Fin 8)) (Q : PUnit → sProp 𝕄),
      iprop(Kn ∗ bigSepL l A ∗ I l ∗ ((bigSepL l B ∗ I []) -∗ Q ⟨⟩)) ⊢ wpc c (each f l) Q
  | [], Q => by
    show _ ⊢ wpc c (.ret ⟨⟩) Q
    rw [wpc, wp_ret]
    iintro ⟨-, -, HI, HQ⟩
    imodintro
    iapply HQ
    isplitr
    · rw [bigSepL_nil]; iempintro
    · iexact HI
  | r :: l, Q => by
    show _ ⊢ wpc c (f r >>= fun _ => each f l) Q
    rw [wpc, wp_bind, bigSepL_cons', bigSepL_cons']
    iintro ⟨#HK, ⟨HA, HAs⟩, HI, HQ⟩
    iapply (h r l _)
    isplitr; · iexact HK
    isplitl [HA]; · iexact HA
    isplitl [HI]; · iexact HI
    iintro ⟨HB, HI⟩
    iapply (wp_each c Kn f A B I h l Q)
    isplitr; · iexact HK
    isplitl [HAs]; · iexact HAs
    isplitl [HI]; · iexact HI
    iintro ⟨HBs, HI⟩
    iapply HQ
    isplitr [HI]
    · isplitl [HB] <;> iassumption
    · iexact HI

/-! ## What every device knows -/

theorem barCell_inj : Function.Injective barCell := fun c c' h => congrArg (fun g : GSem nD τ sig => g.1.1) h
theorem dsem_inj : ∀ k k' r r', dsem k r = dsem k' r' → (k, r) = (k', r') := fun k k' r r' h => by
  have := congrArg role h
  rw [role_copy, role_copy] at this
  injection this with h₁ h₂
  rw [h₁, h₂]
/-- The copy cells by number. -/
abbrev copyCell (i : Dev nD × Fin 4 × Fin 8) : GSem nD τ sig := cell i.2.1 i.1 i.2.2
theorem copyCell_inj : Function.Injective copyCell := fun ⟨c, k, r⟩ ⟨c', k', r'⟩ h => by
  have h₁ : c = c' := congrArg (fun g : GSem nD τ sig => g.1.1) h
  have h₂ := dsem_inj k k' r r' (congrArg Prod.snd h)
  rw [h₁, h₂]
/-- All handshake cells, and all copy cells. -/
def barCells : Finset (GSem nD τ sig) := Finset.univ.map ⟨barCell, barCell_inj⟩
def copyCells : Finset (GSem nD τ sig) := Finset.univ.map ⟨copyCell, copyCell_inj⟩

section
variable (D : Staged F) (K : GSem nD τ sig → ℕ)

/-- Every cell's invariant, under the names `K`, and the levels. -/
def known : sProp 𝕄 :=
  iprop(bigSep barCells (fun g => cellInv ER (sched D) (K g) g) ∗ bigSep copyCells (fun g => cellInv ER (sched D) (K g) g) ∗ levAts L lv)

instance known_persistent : BI.Persistent (known D K) := by unfold known; infer_instance

theorem known_bar (c : Dev nD) : known D K ⊢ cellInv ER (sched D) (K (barCell c)) (barCell c) := by
  unfold known
  exact sep_elim_left.trans (BI.bigSep_elim (s := barCells) (i := barCell c) (Finset.mem_map.mpr ⟨c, Finset.mem_univ _, rfl⟩))
theorem known_copy (k : Fin 4) (c : Dev nD) (r : Fin 8) : known D K ⊢ cellInv ER (sched D) (K (cell k c r)) (cell k c r) := by
  unfold known
  exact sep_elim_right.trans (sep_elim_left.trans
    (BI.bigSep_elim (s := copyCells) (i := cell k c r) (Finset.mem_map.mpr ⟨(c, k, r), Finset.mem_univ _, rfl⟩)))
theorem known_lev : known D K ⊢ levAts L lv := by
  unfold known; iintro ⟨-, -, H⟩; iexact H

/-! ## Waiting for a copy -/

/-- A wait for a copy's whole credit hands over what the copy's semaphore holds, and leaves the semaphore at zero. -/
theorem wp_wait_copy (c : Dev nD) (k : Fin 4) (r : Fin 8) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (dsem k r) k' Kt)
    (hk : k' = N) (O : CellTallies nD τ sig Unit) (hO : (levAts L lv : sProp 𝕄) ⊢ MayWait (c : Thread nD τ) (dsem k r) () O)
    {α : Type} {kt : PUnit → KProg (F := F) α} {Q : α → sProp 𝕄} :
    iprop(known D K ∗ cred (tallyAt (cell k c r) () N) ∗ atPos ER (cell k c r) 0 ∅ 0 ∗ (∃ W, owes (c : Thread nD τ) O W))
      ⊢ iprop((((∃ W, owes (c : Thread nD τ) O W) ∗ copyPay D c k r ∗ semVal (cell k c r) 0) -∗ wpc c (kt ⟨⟩) Q) -∗ wpc c (.op w kt) Q) := by
  subst hk
  iintro ⟨#HK, Hc, Hat, ⟨%W, HO⟩⟩ HQ
  ihave #Hi := (known_copy D K k c r) $$ HK
  iapply (Rounds.wp_wait_rest_token 𝒱₀ ER (sched D) (c : Thread nD τ) none (κ := K (cell k c r))
      hw (Set.mem_univ _) () (O := O) (W := W) (R := 0) (m := 0) (T := ∅)
      (by rw [Nat.zero_add]; exact (expect_copy D c k r).symm)) $$ [Hc HO Hat]
  · isplitr; · iexact Hi
    isplitl [Hc]; · iexact Hc
    isplitl [HO]; · iexact HO
    isplitr; · iapply hO; iapply (known_lev D K); iexact HK
    iexact Hat
  iintro ⟨HO, Hat, -, Hp⟩
  ihave Hp := (Entails.of_eq (rest_copy D c k r)) $$ Hp
  imod (Rounds.cell_close ER (sched D) (Set.mem_univ (K (cell k c r))) (fun h => h) (R := 0 + 1) (duties_later D (cell k c r))) $$ [Hat] with Hz
  · isplitr; · iexact Hi
    iexact Hat
  iapply HQ
  isplitl [HO]; · iexists _; iexact HO
  isplitl [Hp] <;> iassumption

/-- Every chunk's rows carry the same credit. -/
theorem credit_pr (r : Fin 8) : (slot prM r).view.dmaCredit = N := rfl
theorem credit_yb (r : Fin 8) : (slot ybM r).view.dmaCredit = N := rfl
theorem credit_or (r : Fin 8) : (slot orM r).view.dmaCredit = N := rfl
theorem credit_send (c : Dev nD) (r : Fin 8) : (sendV c r).view.dmaCredit = N := rfl

/-! ## The steps -/

/-- Chunk `r` leaves along x. -/
def pushA (c : Dev nD) (r : Fin 8) : sProp 𝕄 :=
  iprop(sendPts D c r ∗ someSlot prM (xn c) r ∗ dutyTok ER (cell 0 c r) 0 false ∗ reached ER (cell 0 c r) 0
    ∗ dutyTok ER (cell 1 (xn c) r) 0 false ∗ reached ER (cell 1 (xn c) r) 0)
def pushB (c : Dev nD) (r : Fin 8) : sProp 𝕄 := cred (tallyAt (cell 0 c r) () N)
def pushI (c : Dev nD) (l : List (Fin 8)) : sProp 𝕄 := iprop(∃ W, owes (c : Thread nD τ) (owedY c chunks + owedX c l) W)

/-- The copy along x moves one chunk's credit. -/
theorem amount_x (r : Fin 8) : (slot prM r).view.amount (.dma (xrS r)) = N := rfl
/-- What the copy along x leaves at the neighbour is what the neighbour's semaphore hands over. -/
theorem landed_x (c : Dev nD) (r : Fin 8) (fn : Buf (Elt F) ((slot prM r).view.loc (xn c : Thread nD τ))) :
    ((slot prM r).view.loc (xn c : Thread nD τ) ↦[(slot prM r).view.set]{fullShare}
      ((slot prM r).view.write (Elt F) fn ((sendV c r).view.read (Elt F) (D.p c)) Finset.univ) : sProp 𝕄)
      ⊢ (sched D).payload (cell 1 (xn c) r) 0 false := by
  rw [payload_copy D (xn c) 1 r]
  show _ ⊢ heldSlot prM (xn c) r (D.got (xn c) r)
  unfold heldSlot
  iintro H
  iexists _
  isplitr
  rotate_left
  · iexact H
  · ipureintro; rw [Staged.got, xn_xn]; exact read_landed prM r fn _
theorem routes_all (c c' : Dev nD) : τ.routes (c : Thread nD τ) (c' : Thread nD τ) = true := by routes

theorem owedX_cons (c : Dev nD) (r : Fin 8) (l : List (Fin 8)) :
    owedY c chunks + owedX c (r :: l) = owedY c chunks + owedX c l + tallyAt (cell 1 (xn c) r) () N := (add_assoc _ _ _).symm

theorem wp_push (c : Dev nD) (r : Fin 8) (l : List (Fin 8)) (Q : PUnit → sProp 𝕄) :
    iprop(known D K ∗ pushA D c r ∗ pushI c (r :: l) ∗ ((pushB c r ∗ pushI c l) -∗ Q ⟨⟩)) ⊢ wpc c (push c r) Q := by
  unfold pushA pushB pushI push someSlot sendPts Prog.lift
  iintro ⟨#HK, ⟨Hsrc, ⟨%fn, Hdst⟩, Ht₁, Hr₁, Ht₂, Hr₂⟩, ⟨%W, HO⟩, HQ⟩
  ihave #Hi₁ := (known_copy D K 0 c r) $$ HK
  ihave #Hi₂ := (known_copy D K 1 (xn c) r) $$ HK
  iapply (Rounds.wp_send_pointsTo 𝒱₀ ER (sched D) (c : Thread nD τ) none (c' := (xn c : Thread nD τ)) (src := sendV c r) (dst := slot prM r)
    (sS := .dma (xsS r)) (sem := .dma (xrS r)) (κ₁ := K (cell 0 c r)) (κ₂ := K (cell 1 (xn c) r))
    (r₁ := 0) (r₂ := 0) (d₁ := false) (d₂ := false) (fd := fn)
    (by rw [duties_copy D c 0 r]; exact Finset.mem_singleton_self _) (by rw [duties_copy D (xn c) 1 r]; exact Finset.mem_singleton_self _)
    () () N (amount_x r) (amount_copy D c 0 r false) (amount_copy D (xn c) 1 r false) (owedY c chunks + owedX c l)
    (owedX_cons c r l) (W := W)
    (by rw [payload_copy D c 0 r]; exact BI.Entails.refl _) (landed_x D c r fn) (routes_all _ _)) $$ [Hsrc Hdst Ht₁ Hr₁ Ht₂ Hr₂ HO]
  · isplitr; · iexact Hi₁
    isplitr; · iexact Hi₂
    isplitl [Hsrc]; · iexact Hsrc
    isplitl [Hdst]; · iexact Hdst
    isplitl [HO]; · iexact HO
    isplitl [Ht₁]; · iexact Ht₁
    isplitl [Hr₁]; · iexact Hr₁
    isplitl [Ht₂] <;> iassumption
  iintro ⟨Hc, HO⟩
  rw [wp_ret]; imodintro
  iapply HQ
  isplitl [Hc]; · iexact Hc
  iexists _; iexact HO

/-- Chunk `r` is computed and leaves along y. -/
def chunkA (c : Dev nD) (r : Fin 8) : sProp 𝕄 :=
  iprop(cred (tallyAt (cell 1 c r) () N) ∗ atPos ER (cell 1 c r) 0 ∅ 0 ∗ someSlot ybM c r ∗ someSlot orM (yn c) r
    ∗ dutyTok ER (cell 2 c r) 0 false ∗ reached ER (cell 2 c r) 0 ∗ dutyTok ER (cell 3 (yn c) r) 0 false ∗ reached ER (cell 3 (yn c) r) 0)
def chunkB (c : Dev nD) (r : Fin 8) : sProp 𝕄 :=
  iprop(someSlot prM c r ∗ semVal (cell 1 c r) 0 ∗ cred (tallyAt (cell 2 c r) () N))
/-- The inputs, and the result with the device's own rows in place for every chunk not in the list. -/
def chunkI (c : Dev nD) (l : List (Fin 8)) : sProp 𝕄 :=
  iprop((∃ W, owes (c : Thread nD τ) (owedY c l) W)
    ∗ ((c : Thread nD τ).loc cc0_stg0_0 ↦{fullShare.left} D.p c) ∗ ((c : Thread nD τ).loc cc0_stg1_0 ↦{fullShare} D.x c)
    ∗ ((c : Thread nD τ).loc cc0_stg2_0 ↦{fullShare} D.g c)
    ∗ ∃ f : Buf (Elt F) ((c : Thread nD τ).loc cc0_stg3_0),
        ⌜∀ r, r ∉ l → oM.view.readAt (Elt F) (ownR c r).toLoadRect f = D.out c r⌝ ∗ ((c : Thread nD τ).loc cc0_stg3_0 ↦{fullShare} f))

/-- The copy along y moves one chunk's credit. -/
theorem amount_y (r : Fin 8) : (slot orM r).view.amount (.dma (yrS r)) = N := rfl
/-- What the copy along y leaves at the neighbour is what the neighbour's semaphore hands over. -/
theorem landed_y (c : Dev nD) (r : Fin 8) (fs : Buf (Elt F) ((slot ybM r).view.loc (c : Thread nD τ)))
    (fn : Buf (Elt F) ((slot orM r).view.loc (yn c : Thread nD τ))) :
    ((slot orM r).view.loc (yn c : Thread nD τ) ↦[(slot orM r).view.set]{fullShare}
      ((slot orM r).view.write (Elt F) fn ((slot ybM r).view.read (Elt F) ((ybM.access (slotR r)).write (Elt F) fs (D.outB c r) Finset.univ)) Finset.univ) : sProp 𝕄)
      ⊢ (sched D).payload (cell 3 (yn c) r) 0 false := by
  rw [payload_copy D (yn c) 3 r]
  show _ ⊢ heldSlot orM (yn c) r (D.outB (yn (yn c)) r)
  unfold heldSlot
  iintro H
  iexists _
  isplitr
  rotate_left
  · iexact H
  · ipureintro
    rw [yn_yn]
    refine (read_landed orM r fn _).trans ?_
    rw [← read_slotR ybM r]
    exact read_stored ybM r fs _
theorem sent_y (c : Dev nD) (r : Fin 8) (fs : Buf (Elt F) ((slot ybM r).view.loc (c : Thread nD τ))) :
    ((slot ybM r).view.loc (c : Thread nD τ) ↦[(slot ybM r).view.set]{fullShare} fs : sProp 𝕄) ⊢ (sched D).payload (cell 2 c r) 0 false := by
  rw [payload_copy D c 2 r]
  show _ ⊢ someSlot ybM c r
  unfold someSlot
  iintro H; iexists fs; iexact H

/-- A slot's elements are those its rectangle loads and stores. -/
theorem slot_loads (M : Memref sig .tc .vmem S8x64x1024 .bf16) (r : Fin 8) : M.view.setOn (slotR r).toLoadRect.set ⊆ (slot M r).view.set := by
  rw [slot_set]; exact subset_of_eq (View.set_slice _ _).symm
theorem slot_stores (M : Memref sig .tc .vmem S8x64x1024 .bf16) (r : Fin 8) : (M.access (slotR r)).setOn Finset.univ ⊆ (slot M r).view.set := by
  rw [slot_set, View.setOn_univ]

theorem wp_chunk (c : Dev nD) (r : Fin 8) (l : List (Fin 8)) (Q : PUnit → sProp 𝕄) :
    iprop(known D K ∗ chunkA c r ∗ chunkI D c (r :: l) ∗ ((chunkB c r ∗ chunkI D c l) -∗ Q ⟨⟩)) ⊢ wpc c (chunk c r) Q := by
  unfold chunkA chunkI chunk
  simp only [Prog.lift, Prog.bind_op, Prog.bind_ret, Prog.pure_eq_ret]
  iintro ⟨#HK, ⟨Hc, Hat, Hyb, ⟨Hor, Ht₁, Hr₁, Ht₂, Hr₂⟩⟩, ⟨HO, Hp, Hx, Hg, ⟨%f, %hf, Ho⟩⟩, HQ⟩
  iapply (wp_wait_copy D K c 1 r (w := .waitDma2 (xrS r) (sendV c r) (slot prM r) (send_words c r) (pr_words r)) (wpE_waitDma2_eq 𝒱₀ (c : Thread nD τ) none Set.univ) (credit_pr r) (owedY c (r :: l)) (mayWait_x c r (r :: l))) $$ [Hc Hat HO]
  · isplitr; · iexact HK
    isplitl [Hc]; · iexact Hc
    isplitl [Hat] <;> iassumption
  iintro ⟨HO, Hpr, Hz⟩
  unfold copyPay heldSlot
  icases Hpr with ⟨%fr, %hfr, Hpr⟩
  iapply (wp_load 𝒱₀ (c : Thread nD τ) none Set.univ (m := pM) (Finset.subset_univ _)) $$ Hp; iintro Hp
  iapply (wp_load 𝒱₀ (c : Thread nD τ) none Set.univ (m := prM) (slot_loads prM r)) $$ Hpr; iintro Hpr
  iapply (wp_load 𝒱₀ (c : Thread nD τ) none Set.univ (m := rM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := ownR c r) (Mk := Finset.univ) (Finset.subset_univ _)) $$ Ho; iintro Ho
  rw [hfr]
  unfold someSlot
  icases Hyb with ⟨%fb, Hyb⟩
  icases Hor with ⟨%fn, Hor⟩
  icases HO with ⟨%W, HO⟩
  iapply (wp_load 𝒱₀ (c : Thread nD τ) none Set.univ (m := ybM) (slot_loads ybM r)) $$ Hyb; iintro Hyb
  iapply (wp_store 𝒱₀ (c : Thread nD τ) none Set.univ (m := ybM) (r := slotR r) (Mk := Finset.univ) (slot_stores ybM r)) $$ Hyb; iintro Hyb
  ihave #Hi₁ := (known_copy D K 2 c r) $$ HK
  ihave #Hi₂ := (known_copy D K 3 (yn c) r) $$ HK
  iapply (Rounds.wp_send_pointsTo 𝒱₀ ER (sched D) (c : Thread nD τ) none (c' := (yn c : Thread nD τ)) (src := slot ybM r) (dst := slot orM r)
    (sS := .dma (ysS r)) (sem := .dma (yrS r)) (κ₁ := K (cell 2 c r)) (κ₂ := K (cell 3 (yn c) r))
    (r₁ := 0) (r₂ := 0) (d₁ := false) (d₂ := false) (fd := fn)
    (by rw [duties_copy D c 2 r]; exact Finset.mem_singleton_self _) (by rw [duties_copy D (yn c) 3 r]; exact Finset.mem_singleton_self _)
    () () N (amount_y r) (amount_copy D c 2 r false) (amount_copy D (yn c) 3 r false) (owedY c l)
    (show owedY c (r :: l) = owedY c l + tallyAt (cell 3 (yn c) r) () N from rfl) (W := W)
    (sent_y D c r _) (landed_y D c r fb fn) (routes_all _ _)) $$ [Hyb Hor Ht₁ Hr₁ Ht₂ Hr₂ HO]
  · isplitr; · iexact Hi₁
    isplitr; · iexact Hi₂
    isplitl [Hyb]; · iexact Hyb
    isplitl [Hor]; · iexact Hor
    isplitl [HO]; · iexact HO
    isplitl [Ht₁]; · iexact Ht₁
    isplitl [Hr₁]; · iexact Hr₁
    isplitl [Ht₂] <;> iassumption
  iintro ⟨Hc, HO⟩
  rw [wp_ret]; imodintro
  iapply HQ
  isplitl [Hpr Hz Hc]
  · unfold chunkB someSlot
    isplitl [Hpr]; · iexists fr; iexact Hpr
    isplitl [Hz] <;> iassumption
  isplitl [HO]; · iexists _; iexact HO
  isplitl [Hp]; · iexact Hp
  isplitl [Hx]; · iexact Hx
  isplitl [Hg]; · iexact Hg
  iexists _
  isplitr
  rotate_left
  · iexact Ho
  · ipureintro
    intro r' hr'
    by_cases h : r' = r
    · subst h; exact read_rows_same _ _ _
    · exact (read_rows_apart _ _ (own_own c h) _ _).trans (hf r' (by rw [List.mem_cons]; exact fun h' => h'.elim h hr'))

/-- Chunk `r` arrives along y. -/
def landA (c : Dev nD) (r : Fin 8) : sProp 𝕄 := iprop(cred (tallyAt (cell 3 c r) () N) ∗ atPos ER (cell 3 c r) 0 ∅ 0)
def landB (c : Dev nD) (r : Fin 8) : sProp 𝕄 := iprop(someSlot (F := F) orM c r ∗ semVal (cell 3 c r) 0)
/-- The result with the device's own rows in place, and the neighbour's for every chunk not in the list. -/
def landI (c : Dev nD) (l : List (Fin 8)) : sProp 𝕄 :=
  iprop((∃ W, owes (c : Thread nD τ) 0 W)
    ∗ ∃ f : Buf (Elt F) ((c : Thread nD τ).loc cc0_stg3_0),
        ⌜(∀ r, oM.view.readAt (Elt F) (ownR c r).toLoadRect f = D.out c r)
          ∧ ∀ r, r ∉ l → oM.view.readAt (Elt F) (farR c r).toLoadRect f = D.far c r⌝ ∗ ((c : Thread nD τ).loc cc0_stg3_0 ↦{fullShare} f))

theorem wp_land (c : Dev nD) (r : Fin 8) (l : List (Fin 8)) (Q : PUnit → sProp 𝕄) :
    iprop(known D K ∗ landA c r ∗ landI D c (r :: l) ∗ ((landB c r ∗ landI D c l) -∗ Q ⟨⟩)) ⊢ wpc c (land c r) Q := by
  unfold landA landI land
  simp only [Prog.lift, Prog.bind_op, Prog.bind_ret, Prog.pure_eq_ret]
  iintro ⟨#HK, ⟨Hc, Hat⟩, ⟨HO, ⟨%f, %hf, Ho⟩⟩, HQ⟩
  iapply (wp_wait_copy D K c 3 r (w := .waitDma2 (yrS r) (slot ybM r) (slot orM r) (yb_words r) (or_words r)) (wpE_waitDma2_eq 𝒱₀ (c : Thread nD τ) none Set.univ) (credit_or r) 0 (by rw [MayWait_zero]; iintro -; iempintro)) $$ [Hc Hat HO]
  · isplitr; · iexact HK
    isplitl [Hc]; · iexact Hc
    isplitl [Hat] <;> iassumption
  iintro ⟨HO, Hor, Hz⟩
  unfold copyPay heldSlot
  icases Hor with ⟨%fr, %hfr, Hor⟩
  iapply (wp_load 𝒱₀ (c : Thread nD τ) none Set.univ (m := orM) (slot_loads orM r)) $$ Hor; iintro Hor
  iapply (wp_load 𝒱₀ (c : Thread nD τ) none Set.univ (m := oM) (Finset.subset_univ _)) $$ Ho; iintro Ho
  iapply (wp_store 𝒱₀ (c : Thread nD τ) none Set.univ (m := oM) (r := farR c r) (Mk := Finset.univ) (Finset.subset_univ _)) $$ Ho; iintro Ho
  rw [hfr, wp_ret]; imodintro
  iapply HQ
  isplitl [Hor Hz]
  · unfold landB someSlot
    isplitl [Hor]; · iexists fr; iexact Hor
    iexact Hz
  isplitl [HO]; · iexact HO
  iexists _
  isplitr
  rotate_left
  · iexact Ho
  · ipureintro
    refine ⟨fun r' => (read_rows_apart _ _ (own_far c r' r) _ _).trans (hf.1 r'), fun r' hr' => ?_⟩
    by_cases h : r' = r
    · subst h; exact read_rows_same _ _ _
    · exact (read_rows_apart _ _ (far_far c h) _ _).trans (hf.2 r' (by rw [List.mem_cons]; exact fun h' => h'.elim h hr'))

/-- Both copies of chunk `r` have left. -/
def leftA (c : Dev nD) (r : Fin 8) : sProp 𝕄 :=
  iprop(cred (tallyAt (cell 0 c r) () N) ∗ atPos ER (cell 0 c r) 0 ∅ 0 ∗ cred (tallyAt (cell 2 c r) () N) ∗ atPos ER (cell 2 c r) 0 ∅ 0)
def leftB (c : Dev nD) (r : Fin 8) : sProp 𝕄 :=
  iprop(sendPts D c r ∗ someSlot ybM c r ∗ semVal (cell 0 c r) 0 ∗ semVal (cell 2 c r) 0)
def leftI (c : Dev nD) (l : List (Fin 8)) : sProp 𝕄 := iprop(∃ W, owes (c : Thread nD τ) 0 W)

theorem wp_left (c : Dev nD) (r : Fin 8) (l : List (Fin 8)) (Q : PUnit → sProp 𝕄) :
    iprop(known D K ∗ leftA c r ∗ leftI c (r :: l) ∗ ((leftB D c r ∗ leftI c l) -∗ Q ⟨⟩)) ⊢ wpc c (left c r) Q := by
  unfold leftA leftI left
  simp only [Prog.lift, Prog.bind_op, Prog.bind_ret, Prog.pure_eq_ret]
  iintro ⟨#HK, ⟨Hc₀, Hat₀, Hc₂, Hat₂⟩, HO, HQ⟩
  iapply (wp_wait_copy D K c 0 r (w := .waitDma2 (xsS r) (slot prM r) (sendV c r) (pr_words r) (send_words c r)) (wpE_waitDma2_eq 𝒱₀ (c : Thread nD τ) none Set.univ) (credit_send c r) 0 (by rw [MayWait_zero]; iintro -; iempintro)) $$ [Hc₀ Hat₀ HO]
  · isplitr; · iexact HK
    isplitl [Hc₀]; · iexact Hc₀
    isplitl [Hat₀] <;> iassumption
  iintro ⟨HO, Hp₀, Hz₀⟩
  iapply (wp_wait_copy D K c 2 r (w := .waitDma2 (ysS r) (slot orM r) (slot ybM r) (or_words r) (yb_words r)) (wpE_waitDma2_eq 𝒱₀ (c : Thread nD τ) none Set.univ) (credit_yb r) 0 (by rw [MayWait_zero]; iintro -; iempintro)) $$ [Hc₂ Hat₂ HO]
  · isplitr; · iexact HK
    isplitl [Hc₂]; · iexact Hc₂
    isplitl [Hat₂] <;> iassumption
  iintro ⟨HO, Hp₂, Hz₂⟩
  rw [wpc, wp_ret]; imodintro
  iapply HQ
  isplitr [HO]
  · unfold leftB copyPay
    isplitl [Hp₀]; · iexact Hp₀
    isplitl [Hp₂]; · iexact Hp₂
    isplitl [Hz₀] <;> iassumption
  iexact HO

end

end Cert.KernelIdeal.Norm

end
-- ==== Proof.KernelIdeal.Outcome.lean ====
/- The result of the body as a matrix, element by element, and that sixteen stored chunks are all of it. -/
module

public import proofs.«01_k».proof.Proof.KernelIdeal.Protocol

@[expose] public section

set_option maxRecDepth 16384

noncomputable section

namespace Cert.KernelIdeal.Norm

open Idealize.ShloMosaic Idealize.ShloMosaic.TcCoe
open Cert.KernelIdeal Cert.KernelIdeal.Gen

variable {F : FTy → Type} [FloatOps F]

/-- The chunk an element's row belongs to, within its half. -/
def chunkOf (i : S1024x1024.Idx) : Fin 8 := Fin.ofNat 8 ((i 0).val / 64 % 8)
/-- An element's place in its chunk. -/
def inChunk (i : S1024x1024.Idx) : S64x1024.Idx := fun a =>
  ⟨if a = 0 then (i 0).val % 64 else (i 1).val, by
    fin_cases a
    · exact Nat.mod_lt _ (by decide)
    · exact (i 1).isLt⟩

/-- The result on device `c`: its own chunks in its half of the rows, the neighbour's in the other half. -/
def outAt (D : Staged F) (c : Dev nD) : (cc0_stg3_0 : Ref sig .tc).ty.Contents (Elt F) := fun i : S1024x1024.Idx =>
  if (i 0).val / 512 = half c then D.out c (chunkOf i) (inChunk i) else D.far c (chunkOf i) (inChunk i)

/-- An element lies in the rows of its chunk, where the rows start at the right half. -/
theorem place {o : Fin 2 → ℕ} {h} (i : S1024x1024.Idx) (k : ℕ) (ho : o = ![512 * k + 64 * (chunkOf i).val, 0]) (hk : (i 0).val / 512 = k) :
    (Rect.unit (s := S1024x1024) o S64x1024.size h).emb (inChunk i) = i := by
  funext a
  apply Fin.ext
  rw [Rect.emb_apply]
  subst ho
  have h₀ : (chunkOf i).val = (i 0).val / 64 % 8 := by
    show (i 0).val / 64 % 8 % 8 = _; omega
  fin_cases a
  · show 512 * k + 64 * (chunkOf i).val + 1 * ((i 0).val % 64) = (i 0).val
    rw [h₀]; omega
  · show 0 + 1 * (i 1).val = (i 1).val
    omega

/-- A matrix that reads as the device's own chunks and as the neighbour's is the result. -/
theorem eq_outAt (D : Staged F) (c : Dev nD) (f : (cc0_stg3_0 : Ref sig .tc).ty.Contents (Elt F))
    (h₁ : ∀ r, oM.view.readAt (Elt F) (ownR c r).toLoadRect f = D.out c r)
    (h₂ : ∀ r, oM.view.readAt (Elt F) (farR c r).toLoadRect f = D.far c r) : f = outAt D c := by
  funext i
  show f i = if (i 0).val / 512 = half c then D.out c (chunkOf i) (inChunk i) else D.far c (chunkOf i) (inChunk i)
  split
  · next h =>
    have e := congrFun (h₁ (chunkOf i)) (inChunk i)
    rw [← e]
    show f i = f ((ownR c (chunkOf i)).emb (inChunk i))
    rw [place i (half c) (own_off c _) h]
  · next h =>
    have e := congrFun (h₂ (chunkOf i)) (inChunk i)
    rw [← e]
    show f i = f ((farR c (chunkOf i)).emb (inChunk i))
    rw [place i (1 - half c) (far_off c _) (by have := half_lt c; have : (i 0).val < 1024 := (i 0).isLt; omega)]

end Cert.KernelIdeal.Norm

end
-- ==== Proof.KernelIdeal.Body.lean ====
/- The body of one device from what it holds when the kernel starts to what it holds when the kernel ends. -/
module

public import proofs.«01_k».proof.Proof.KernelIdeal.Rules
public import proofs.«01_k».proof.Proof.KernelIdeal.Outcome

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-! ## Resources chunk by chunk -/

/-- One resource for every chunk. -/
abbrev every (Φ : Fin 8 → sProp 𝕄) : sProp 𝕄 := bigSep Finset.univ Φ

theorem every_list (Φ : Fin 8 → sProp 𝕄) : every Φ = bigSepL chunks Φ := bigSep_univ_eq_bigSepL chunks (by decide) (by decide) Φ
theorem every_sep (Φ Ψ : Fin 8 → sProp 𝕄) : every (fun r => iprop(Φ r ∗ Ψ r)) = iprop(every Φ ∗ every Ψ) := bigSep_sep' _ _ _
theorem every_mono {Φ Ψ : Fin 8 → sProp 𝕄} (h : ∀ r, Φ r ⊢ Ψ r) : every Φ ⊢ every Ψ := bigSep_mono fun r _ => h r

/-- A resource for each of the four arrays. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
/-- A resource for every copy semaphore, by chunks. -/
theorem by_chunk (Φ : Fin 4 → Fin 8 → sProp 𝕄) :
    bigSep Finset.univ (fun i : Fin 4 × Fin 8 => Φ i.1 i.2) = every fun r => iprop(Φ 0 r ∗ Φ 1 r ∗ Φ 2 r ∗ Φ 3 r) := by
  rw [bigSep_univ_prod, four, every_sep, every_sep, every_sep]

/-! ## The buffers cut and joined -/

/-- A whole chunked buffer is its slots. -/
theorem cut_pr (c : Dev nD) (f : Buf (Elt F) ((c : Thread nD τ).loc cc0_scratch0)) :
    ((c : Thread nD τ).loc cc0_scratch0 ↦{fullShare} f : sProp 𝕄) ⊢ someBuf prM c := by
  rw [Ring.pointsTo_blocks (fun r : Fin 8 => (slotR r).set) slot_apart slot_cover f]
  unfold someBuf someSlot
  refine every_mono fun r => ?_
  rw [slot_set, View.set_slice_whole]
  iintro H; iexists f; iexact H
theorem cut_yb (c : Dev nD) (f : Buf (Elt F) ((c : Thread nD τ).loc cc0_scratch1)) :
    ((c : Thread nD τ).loc cc0_scratch1 ↦{fullShare} f : sProp 𝕄) ⊢ someBuf ybM c := by
  rw [Ring.pointsTo_blocks (fun r : Fin 8 => (slotR r).set) slot_apart slot_cover f]
  unfold someBuf someSlot
  refine every_mono fun r => ?_
  rw [slot_set, View.set_slice_whole]
  iintro H; iexists f; iexact H
theorem cut_or (c : Dev nD) (f : Buf (Elt F) ((c : Thread nD τ).loc cc0_scratch2)) :
    ((c : Thread nD τ).loc cc0_scratch2 ↦{fullShare} f : sProp 𝕄) ⊢ someBuf orM c := by
  rw [Ring.pointsTo_blocks (fun r : Fin 8 => (slotR r).set) slot_apart slot_cover f]
  unfold someBuf someSlot
  refine every_mono fun r => ?_
  rw [slot_set, View.set_slice_whole]
  iintro H; iexists f; iexact H
theorem join_pr (c : Dev nD) (f : Buf (Elt F) ((c : Thread nD τ).loc cc0_scratch0)) :
    someBuf prM c ⊢ (iprop(∃ g : Buf (Elt F) ((c : Thread nD τ).loc cc0_scratch0), ((c : Thread nD τ).loc cc0_scratch0) ↦{fullShare} g) : sProp 𝕄) := by
  refine BIBase.Entails.trans ?_ (Ring.pointsTo_blocks_join_exists (fun r : Fin 8 => (slotR r).set) slot_apart slot_cover f)
  unfold someBuf someSlot
  refine every_mono fun r => ?_
  rw [slot_set, View.set_slice_whole]
theorem join_yb (c : Dev nD) (f : Buf (Elt F) ((c : Thread nD τ).loc cc0_scratch1)) :
    someBuf ybM c ⊢ (iprop(∃ g : Buf (Elt F) ((c : Thread nD τ).loc cc0_scratch1), ((c : Thread nD τ).loc cc0_scratch1) ↦{fullShare} g) : sProp 𝕄) := by
  refine BIBase.Entails.trans ?_ (Ring.pointsTo_blocks_join_exists (fun r : Fin 8 => (slotR r).set) slot_apart slot_cover f)
  unfold someBuf someSlot
  refine every_mono fun r => ?_
  rw [slot_set, View.set_slice_whole]
theorem join_or (c : Dev nD) (f : Buf (Elt F) ((c : Thread nD τ).loc cc0_scratch2)) :
    someBuf orM c ⊢ (iprop(∃ g : Buf (Elt F) ((c : Thread nD τ).loc cc0_scratch2), ((c : Thread nD τ).loc cc0_scratch2) ↦{fullShare} g) : sProp 𝕄) := by
  refine BIBase.Entails.trans ?_ (Ring.pointsTo_blocks_join_exists (fun r : Fin 8 => (slotR r).set) slot_apart slot_cover f)
  unfold someBuf someSlot
  refine every_mono fun r => ?_
  rw [slot_set, View.set_slice_whole]

section
variable (D : Staged F)

/-- The rows a device sends along x. -/
def sendSet (c : Dev nD) : Finset S1024x1024.Idx := Finset.univ.biUnion fun r : Fin 8 => (sendR c r).set
/-- What is left of the lent half share of the partial sums. -/
def keptPts (c : Dev nD) : sProp 𝕄 := (c : Thread nD τ).loc cc0_stg0_0 ↦[Finset.univ \ sendSet c]{fullShare.right} D.p c

theorem send_blocks (c : Dev nD) :
    ((c : Thread nD τ).loc cc0_stg0_0 ↦[sendSet c]{fullShare.right} D.p c : sProp 𝕄) = every (sendPts D c) := by
  refine (Ring.pointsTo_sub_blocks (ℓ := (c : Thread nD τ).loc cc0_stg0_0) (q := fullShare.right)
    (fun r : Fin 8 => (sendR c r).set) (fun r r' h => send_send c h) (sendSet c) rfl (D.p c)).trans ?_
  refine bigSep_congr fun r _ => ?_
  unfold sendPts
  rw [show (sendV c r).view.set = (sendR c r).set from View.set_slice_whole _ _]

/-- The partial sums: half a share kept for reading, half lent to the copies along x. -/
theorem lend (c : Dev nD) : ((c : Thread nD τ).loc cc0_stg0_0 ↦{fullShare} D.p c : sProp 𝕄)
    ⊣⊢ iprop(((c : Thread nD τ).loc cc0_stg0_0 ↦{fullShare.left} D.p c) ∗ every (sendPts D c) ∗ keptPts D c) := by
  rw [← send_blocks]
  unfold keptPts
  have h₁ := pointsTo_share (Ix := Unit) (Name := ℕ) (U := UU) (Lvl := ℕ) (ℓ := (c : Thread nD τ).loc cc0_stg0_0) (I := Finset.univ) (f := D.p c) (PosShare.mem_left_op_right fullShare)
  have h₂ := pointsTo_split_subset (Ix := Unit) (Name := ℕ) (U := UU) (Lvl := ℕ) (ℓ := (c : Thread nD τ).loc cc0_stg0_0) (f := D.p c) (q := fullShare.right) (Finset.subset_univ (sendSet c))
  exact ⟨h₁.1.trans (sep_mono_right h₂.1), (sep_mono_right h₂.2).trans h₁.2⟩

variable (K : GSem nD τ sig → ℕ)

/-! ## The handshake -/

/-- What a device spends on the handshake. -/
def helloA (c : Dev nD) : sProp 𝕄 :=
  iprop(atPos ER (barCell c) 0 ∅ 0 ∗ cred (tallyAt (barCell c) () 2)
    ∗ dutyTok ER (barCell (xn c)) 0 true ∗ reached ER (barCell (xn c)) 0
    ∗ dutyTok ER (barCell (yn c)) 0 false ∗ reached ER (barCell (yn c)) 0)

/-- The handshake gives away a device's landing buffers and gets both neighbours'. -/
theorem wp_hello (c : Dev nD) (Q : PUnit → sProp 𝕄) :
    iprop(known D K ∗ helloA c ∗ giveX c ∗ giveY c ∗ (∃ W, owes (c : Thread nD τ) (owed₀ c) W)
        ∗ ((giveX (xn c) ∗ giveY (yn c) ∗ semVal (barCell c) 0 ∗ (∃ W, owes (c : Thread nD τ) (owed₂ c) W)) -∗ Q ⟨⟩))
      ⊢ wpc c (hello c) Q := by
  unfold helloA hello
  simp only [semSignalWord, semWaitWord, Prog.lift, Prog.bind_op, Prog.bind_ret, Prog.pure_eq_ret]
  iintro ⟨#HK, ⟨Hat, Hc, Ht₁, #Hr₁, Ht₂, #Hr₂⟩, HX, HY, ⟨%W, HO⟩, HQ⟩
  ihave #Hi := (known_bar D K c) $$ HK
  ihave #Hi₁ := (known_bar D K (xn c)) $$ HK
  ihave #Hi₂ := (known_bar D K (yn c)) $$ HK
  iapply (Rounds.wp_signal 𝒱₀ ER (sched D) (c : Thread nD τ) none (dst := (xn c : Thread nD τ)) (κ := K (barCell (xn c)))
      (d := true) (by rw [duties_bar]; exact Finset.mem_univ _) ((amount_bar D (xn c) true).trans (by decide)) ()
      (owed₂ c + tallyAt (barCell (yn c)) () 1) rfl) $$ [HO Ht₁ HX]
  · isplitr; · iexact Hi₁
    isplitl [HO]; · iexact HO
    isplitl [Ht₁]; · iexact Ht₁
    isplitl [HX]
    · rw [payload_bar, if_pos rfl, xn_xn]; iexact HX
    · iexact Hr₁
  iintro HO
  iapply (Rounds.wp_signal 𝒱₀ ER (sched D) (c : Thread nD τ) none (dst := (yn c : Thread nD τ)) (κ := K (barCell (yn c)))
      (d := false) (by rw [duties_bar]; exact Finset.mem_univ _) ((amount_bar D (yn c) false).trans (by decide)) ()
      (owed₂ c) rfl) $$ [HO Ht₂ HY]
  · isplitr; · iexact Hi₂
    isplitl [HO]; · iexact HO
    isplitl [Ht₂]; · iexact Ht₂
    isplitl [HY]
    · rw [payload_bar, if_neg (by decide), yn_yn]; iexact HY
    · iexact Hr₂
  iintro HO
  iapply (Rounds.wp_wait_rest_token 𝒱₀ ER (sched D) (c : Thread nD τ) none (κ := K (barCell c))
      (wpE_semWait_eq 𝒱₀ (c : Thread nD τ) none Set.univ) (Set.mem_univ _) () (O := owed₂ c) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iapply (known_lev D K); iexact HK
    iexact Hat
  iintro ⟨HO, Hat, -, Hp⟩
  ihave Hp := (Entails.of_eq (rest_bar D c)) $$ Hp
  icases Hp with ⟨HY, HX⟩
  imod (Rounds.cell_close ER (sched D) (Set.mem_univ (K (barCell c))) (fun h => h) (R := 0 + 1) (duties_later D (barCell c))) $$ [Hat] with Hz
  · isplitr; · iexact Hi
    iexact Hat
  rw [wp_ret]
  imodintro
  iapply HQ
  isplitl [HX]; · iexact HX
  isplitl [HY]; · iexact HY
  isplitl [Hz]; · iexact Hz
  iexists _; iexact HO

/-! ## The whole body -/

/-- The rights to credit the semaphores of a device's copies of chunk `r`. -/
def toks (c : Dev nD) (r : Fin 8) : sProp 𝕄 :=
  iprop(dutyTok ER (cell 0 c r) 0 false ∗ dutyTok ER (cell 1 (xn c) r) 0 false ∗ dutyTok ER (cell 2 c r) 0 false
    ∗ dutyTok ER (cell 3 (yn c) r) 0 false)
/-- A copy semaphore at its first round. -/
def ready (k : Fin 4) (c : Dev nD) (r : Fin 8) : sProp 𝕄 := iprop(atPos ER (cell k c r) 0 ∅ 0 ∗ reached ER (cell k c r) 0)
/-- The credit of the arrivals of chunk `r`. -/
def creds (c : Dev nD) (r : Fin 8) : sProp 𝕄 := iprop(cred (tallyAt (cell 1 c r) () N) ∗ cred (tallyAt (cell 3 c r) () N))

/-- All the arrivals' semaphores are at their first round. -/
theorem marks (c : Dev nD) : bigSep Finset.univ (fun i : Fin 4 × Fin 8 => ready (F := F) i.1 c i.2)
    ⊢ iprop(every (fun r => iprop(atPos ER (cell 0 c r) 0 ∅ 0 ∗ atPos ER (cell 1 c r) 0 ∅ 0 ∗ atPos ER (cell 2 c r) 0 ∅ 0
        ∗ atPos ER (cell 3 c r) 0 ∅ 0 ∗ reached ER (cell 0 c r) 0 ∗ reached ER (cell 2 c r) 0))
      ∗ every (fun r => reached ER (cell 1 c r) 0) ∗ every (fun r => reached ER (cell 3 c r) 0)) := by
  rw [by_chunk (fun k r => ready k c r), ← every_sep, ← every_sep]
  unfold ready
  refine every_mono fun r => ?_
  iintro ⟨⟨A, a⟩, ⟨B, b⟩, ⟨C, c⟩, ⟨D, d⟩⟩
  isplitr [b d]
  · isplitl [A]; · iexact A
    isplitl [B]; · iexact B
    isplitl [C]; · iexact C
    isplitl [D]; · iexact D
    isplitl [a] <;> iassumption
  · isplitl [b] <;> iassumption

/-- After the handshake everything is at hand, chunk by chunk, for each of the four runs of steps. -/
theorem gather (c : Dev nD) :
    iprop(every (toks c)
      ∗ every (fun r => iprop(atPos ER (cell 0 c r) 0 ∅ 0 ∗ atPos ER (cell 1 c r) 0 ∅ 0 ∗ atPos ER (cell 2 c r) 0 ∅ 0
        ∗ atPos ER (cell 3 c r) 0 ∅ 0 ∗ reached ER (cell 0 c r) 0 ∗ reached ER (cell 2 c r) 0))
      ∗ every (creds c) ∗ giveX (xn c) ∗ giveY (yn c) ∗ every (sendPts D c) ∗ someBuf ybM c)
    ⊢ iprop(every (pushA D c) ∗ every (chunkA c) ∗ every (landA c)
        ∗ every fun r => iprop(atPos ER (cell 0 c r) 0 ∅ 0 ∗ atPos ER (cell 2 c r) 0 ∅ 0)) := by
  unfold giveX giveY someBuf
  simp only [← every_sep]
  refine every_mono fun r => ?_
  unfold toks creds pushA chunkA landA
  iintro ⟨⟨t₀, t₁, t₂, t₃⟩, ⟨a₀, a₁, a₂, a₃, r₀, r₂⟩, ⟨c₁, c₃⟩, ⟨sx, r₁⟩, ⟨sy, r₃⟩, sp, yb⟩
  isplitl [sp sx t₀ r₀ t₁ r₁]
  · isplitl [sp]; · iexact sp
    isplitl [sx]; · iexact sx
    isplitl [t₀]; · iexact t₀
    isplitl [r₀]; · iexact r₀
    isplitl [t₁] <;> iassumption
  isplitl [c₁ a₁ yb sy t₂ r₂ t₃ r₃]
  · isplitl [c₁]; · iexact c₁
    isplitl [a₁]; · iexact a₁
    isplitl [yb]; · iexact yb
    isplitl [sy]; · iexact sy
    isplitl [t₂]; · iexact t₂
    isplitl [r₂]; · iexact r₂
    isplitl [t₃] <;> iassumption
  isplitl [c₃ a₃]
  · isplitl [c₃] <;> iassumption
  · isplitl [a₀] <;> iassumption

/-- The credit of the departures comes from the first two runs of steps. -/
theorem gather_left (c : Dev nD) :
    iprop(every (pushB (F := F) c) ∗ every (chunkB c) ∗ every fun r => iprop(atPos ER (cell 0 c r) 0 ∅ 0 ∗ atPos ER (cell 2 c r) 0 ∅ 0))
    ⊢ iprop(every (leftA c) ∗ every fun r => iprop(someSlot prM c r ∗ semVal (cell 1 c r) 0)) := by
  simp only [← every_sep]
  refine every_mono fun r => ?_
  unfold pushB chunkB leftA
  iintro ⟨c₀, ⟨pr, z₁, c₂⟩, a₀, a₂⟩
  isplitr [pr z₁]
  · isplitl [c₀]; · iexact c₀
    isplitl [a₀]; · iexact a₀
    isplitl [c₂] <;> iassumption
  · isplitl [pr] <;> iassumption

/-- At the end every buffer is whole again and every copy semaphore is at zero. -/
theorem gather_end (c : Dev nD) :
    iprop(every (fun r => iprop(someSlot prM c r ∗ semVal (cell 1 c r) 0)) ∗ every (landB c) ∗ every (leftB D c))
    ⊢ iprop(someBuf prM c ∗ someBuf ybM c ∗ someBuf orM c ∗ every (sendPts D c)
        ∗ bigSep Finset.univ fun i : Fin 4 × Fin 8 => semVal (cell i.1 c i.2) 0) := by
  rw [by_chunk (fun k r => semVal (cell k c r) 0)]
  unfold someBuf
  simp only [← every_sep]
  refine every_mono fun r => ?_
  unfold landB leftB
  iintro ⟨⟨pr, z₁⟩, ⟨or, z₃⟩, ⟨sp, yb, z₀, z₂⟩⟩
  isplitl [pr]; · iexact pr
  isplitl [yb]; · iexact yb
  isplitl [or]; · iexact or
  isplitl [sp]; · iexact sp
  isplitl [z₀]; · iexact z₀
  isplitl [z₁]; · iexact z₁
  isplitl [z₂] <;> iassumption

/-- What a device brings to the launch of its body: the handshake's resources and, for every chunk, its copies'. -/
def startLive (c : Dev nD) : sProp 𝕄 :=
  iprop(helloA c ∗ every (toks c) ∗ bigSep Finset.univ (fun i : Fin 4 × Fin 8 => ready (F := F) i.1 c i.2) ∗ every (creds c))
/-- The chunked buffers, with any contents. -/
def bufs₃ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What a device holds after its body, besides the buffers: all its semaphores at zero. -/
def endLive (c : Dev nD) : sProp 𝕄 :=
  iprop(semVal (barCell c) 0 ∗ bigSep Finset.univ fun i : Fin 4 × Fin 8 => semVal (cell i.1 c i.2) 0)
/-- The staged operands and the result. -/
def staged (c : Dev nD) (f : Buf (Elt F) ((c : Thread nD τ).loc cc0_stg3_0)) : sProp 𝕄 :=
  iprop(((c : Thread nD τ).loc cc0_stg0_0 ↦{fullShare} D.p c) ∗ ((c : Thread nD τ).loc cc0_stg1_0 ↦{fullShare} D.x c)
    ∗ ((c : Thread nD τ).loc cc0_stg2_0 ↦{fullShare} D.g c) ∗ ((c : Thread nD τ).loc cc0_stg3_0 ↦{fullShare} f))

theorem chunks_all (r : Fin 8) : r ∈ chunks := by revert r; decide

/-- The steps of a device's body write its result and leave all its semaphores at zero. -/
theorem wp_steps (c : Dev nD) (f : Buf (Elt F) ((c : Thread nD τ).loc cc0_stg3_0)) (Q : PUnit → sProp 𝕄) :
    iprop(known D K ∗ startLive c ∗ bufs₃ c ∗ staged D c f ∗ (∃ W, owes (c : Thread nD τ) (owed₀ c) W)
        ∗ ((endLive c ∗ bufs₃ c ∗ staged D c (outAt D c) ∗ (∃ W, owes (c : Thread nD τ) 0 W)) -∗ Q ⟨⟩))
      ⊢ wpc c (steps c) Q := by
  unfold startLive bufs₃ staged endLive steps
  iintro ⟨#HK, ⟨Hh, Ht, Hready, Hcr⟩, ⟨⟨%f₀, Hpr⟩, ⟨%f₁, Hyb⟩, ⟨%f₂, Hor⟩⟩, ⟨Hp, Hx, Hg, Ho⟩, HO, HQ⟩
  ihave Hpr := (cut_pr c f₀) $$ Hpr
  ihave Hyb := (cut_yb c f₁) $$ Hyb
  ihave Hor := (cut_or c f₂) $$ Hor
  ihave Hp := (lend D c).1 $$ Hp
  icases Hp with ⟨Hp, Hsp, Hkept⟩
  ihave Hready := (marks c) $$ Hready
  icases Hready with ⟨Hready, Hr₁, Hr₃⟩
  rw [wpc, wp_bind]
  iapply (wp_hello D K c)
  isplitr; · iexact HK
  isplitl [Hh]; · iexact Hh
  isplitl [Hpr Hr₁]
  · unfold giveX; isplitl [Hpr] <;> iassumption
  isplitl [Hor Hr₃]
  · unfold giveY; isplitl [Hor] <;> iassumption
  isplitl [HO]; · iexact HO
  iintro ⟨HX, HY, Hz, HO⟩
  ihave Hall := (gather D c) $$ [Ht Hready Hcr HX HY Hsp Hyb]
  · isplitl [Ht]; · iexact Ht
    isplitl [Hready]; · iexact Hready
    isplitl [Hcr]; · iexact Hcr
    isplitl [HX]; · iexact HX
    isplitl [HY]; · iexact HY
    isplitl [Hsp] <;> iassumption
  icases Hall with ⟨HpA, HcA, HlA, Hat⟩
  rw [wp_bind]
  iapply (wp_each c (known D K) (push c) (pushA D c) (pushB c) (pushI c) (wp_push D K c) chunks)
  isplitr; · iexact HK
  isplitl [HpA]; · rw [← every_list]; iexact HpA
  isplitl [HO]; · unfold pushI; iexact HO
  iintro ⟨HpB, HO⟩
  rw [wp_bind]
  iapply (wp_each c (known D K) (chunk c) (chunkA c) (chunkB c) (chunkI D c) (wp_chunk D K c) chunks)
  isplitr; · iexact HK
  isplitl [HcA]; · rw [← every_list]; iexact HcA
  isplitl [HO Hp Hx Hg Ho]
  · unfold chunkI pushI
    isplitl [HO]
    · icases HO with ⟨%W, HO⟩
      iexists W
      rw [show owedX c [] = 0 from rfl, add_zero]
      iexact HO
    isplitl [Hp]; · iexact Hp
    isplitl [Hx]; · iexact Hx
    isplitl [Hg]; · iexact Hg
    iexists f
    isplitr; · ipureintro; exact fun r h => absurd (chunks_all r) h
    iexact Ho
  unfold chunkI
  iintro ⟨HcB, HO, Hp, Hx, Hg, ⟨%f', %hf', Ho⟩⟩
  rw [wp_bind]
  iapply (wp_each c (known D K) (land c) (landA c) (landB c) (landI D c) (wp_land D K c) chunks)
  isplitr; · iexact HK
  isplitl [HlA]; · rw [← every_list]; iexact HlA
  isplitl [HO Ho]
  · unfold landI
    isplitl [HO]
    · rw [show owedY c [] = 0 from rfl]; iexact HO
    iexists f'
    isplitr; · ipureintro; exact ⟨fun r => hf' r (List.not_mem_nil), fun r h => absurd (chunks_all r) h⟩
    iexact Ho
  unfold landI
  iintro ⟨HlB, HO, ⟨%f'', %hf'', Ho⟩⟩
  obtain rfl : f'' = outAt D c := eq_outAt D c f'' hf''.1 fun r => hf''.2 r (List.not_mem_nil)
  ihave Hl := (gather_left c) $$ [HpB HcB Hat]
  · isplitl [HpB]; · rw [every_list]; iexact HpB
    isplitl [HcB]; · rw [every_list]; iexact HcB
    iexact Hat
  icases Hl with ⟨HleA, Hpr⟩
  iapply (wp_each c (known D K) (left c) (leftA c) (leftB D c) (leftI c) (wp_left D K c) chunks)
  isplitr; · iexact HK
  isplitl [HleA]; · rw [← every_list]; iexact HleA
  isplitl [HO]; · unfold leftI; iexact HO
  unfold leftI
  iintro ⟨HleB, HO⟩
  ihave He := (gather_end D c) $$ [Hpr HlB HleB]
  · isplitl [Hpr]; · iexact Hpr
    isplitl [HlB]; · rw [every_list]; iexact HlB
    rw [every_list]; iexact HleB
  icases He with ⟨Hpr, Hyb, Hor, Hsp, Hsems⟩
  iapply HQ
  isplitl [Hz Hsems]
  · isplitl [Hz] <;> iassumption
  isplitl [Hpr Hyb Hor]
  · isplitl [Hpr]; · iapply (join_pr c f₀); iexact Hpr
    isplitl [Hyb]; · iapply (join_yb c f₁); iexact Hyb
    iapply (join_or c f₂); iexact Hor
  isplitr [HO]
  · isplitl [Hp Hsp Hkept]
    · iapply (lend D c).2
      isplitl [Hp]; · iexact Hp
      isplitl [Hsp] <;> iassumption
    isplitl [Hx]; · iexact Hx
    isplitl [Hg] <;> iassumption
  · iexact HO

end

end Cert.KernelIdeal.Norm

end
-- ==== Proof.KernelIdeal.Region.lean ====
/- The kernel as a region of the program: its staged blocks, its body's obligation, and what it needs and leaves. -/
module

public import proofs.«01_k».proof.Proof.KernelIdeal.BodyEq
public import proofs.«01_k».proof.Proof.KernelIdeal.Body
public import Idealize.ShloMosaic.Lib.Pipeline.RegionTalk

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The contents of memory -/

/-- A device's memory when the program starts, after the reshapes, and after the kernel. -/
abbrev V₀ (c : Dev nD) : Valuation τ sig (Elt F) := fun b => m ((c : Dev nD), b)
abbrev V₁ (c : Dev nD) : Valuation τ sig (Elt F) := StableHlo.after hostOps0 (V₀ m c)

/-- What the kernel is given on every device. -/
def given : Staged F where
  p c := V₁ m c (Proc.devRef .tc main_v1)
  x c := V₁ m c (Proc.devRef .tc main_arg1)
  g c := V₁ m c (Proc.devRef .tc main_v2)

abbrev V₂ (c : Dev nD) : Valuation τ sig (Elt F) := Function.update (V₁ m c) (Proc.devRef .tc main_v3) (outAt (given m) c)

/-! ## The region's data -/

/-- Before the body: the protocol's names and a device's resources, and the chunked buffers. -/
def Φstart (c : Dev nD) : sProp 𝕄 :=
  iprop((∃ K, known (given m) K) ∗ startLive c ∗ bufs₃ c ∗ ∃ r, prngReg c r)
/-- After it: all semaphores at zero, and the chunked buffers. -/
def Φend (c : Dev nD) : sProp 𝕄 := iprop(endLive c ∗ bufs₃ (F := F) c ∗ ∃ r, prngReg c r)

/-- The region's data on device `c`: three operands staged whole and left as they are, the result written whole. -/
def dat (c : Dev nD) : Dat τ (Elt F) Unit ℕ UU ℕ cfg0 c where
  A w := V₁ m c (Proc.devRef .tc (Pipeline.arrRef spec0 w))
  after w _ := match w with
    | ⟨0, _⟩ => (given m).p c
    | ⟨1, _⟩ => (given m).x c
    | ⟨2, _⟩ => (given m).g c
    | ⟨3, _⟩ => outAt (given m) c
  Φ t := match t with
    | ⟨0, _⟩ => Φstart m c
    | ⟨_ + 1, _⟩ => Φend c
  q _ := fullShare
  owed t := match t with
    | ⟨0, _⟩ => owed₀ c
    | ⟨_ + 1, _⟩ => 0

abbrev adm : (p : Fin 1) → (pcfgs (F := F) p).Adm := fun p => (cfgs p).toPCfg_adm
def dats (_ : Fin 1) (c : Dev nD) : Dat τ (Elt F) Unit ℕ UU ℕ (Pipeline.pin (pcfgs (F := F)) adm 0) c := dat m c
def pdats : (p : Fin 1) → (c : Dev nD) → Dat τ (Elt F) Unit ℕ UU ℕ (Pipeline.pin (pcfgs (F := F)) adm p) c
  | 0, c => dat m c
  | ⟨_ + 1, h⟩, _ => absurd h (Nat.not_lt.2 (Nat.le_add_left _ _))

/-- A window's staging buffer held whole, at contents that are known. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem zero₂ : (fun a => (0 : ℕ) * S1024x1024.size a) = fun _ => 0 := funext fun a => Nat.zero_mul _
theorem zero₁ : (fun a => (0 : ℕ) * S1x1024.size a) = fun _ => 0 := funext fun a => Nat.zero_mul _

/-- Each operand is staged whole. -/
theorem fetch_p (c : Dev nD) (d) : (dat m c).before (0 : Fin 4) t0_0 d = (given m).p c := by
  unfold Dat.before; rw [if_pos (fetch0_0 t0_0)]
  exact Memref.readAt_unit_zero (Elt F) main_v1 zero₂ (by decide) ((given m).p c)
theorem fetch_x (c : Dev nD) (d) : (dat m c).before (1 : Fin 4) t0_0 d = (given m).x c := by
  unfold Dat.before; rw [if_pos (fetch0_1 t0_0)]
  exact Memref.readAt_unit_zero (Elt F) main_arg1 zero₂ (by decide) ((given m).x c)
theorem fetch_g (c : Dev nD) (d) : (dat m c).before (2 : Fin 4) t0_0 d = (given m).g c := by
  unfold Dat.before; rw [if_pos (fetch0_2 t0_0)]
  exact Memref.readAt_unit_zero (Elt F) main_v2 zero₁ (by decide) ((given m).g c)

/-- A device's debt, as the region states it at a point. -/
theorem debt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO
theorem debt_intro (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W
  isplitr; · ipureintro; exact fun _ _ => Or.inl trivial
  iexact HO

/-- A staging buffer at known contents, as the region states it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φstart m c ∗ (dat m c).owesAt () t0_0.castSucc
    ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ (∃ d, stg c cc0_stg3_0 ((dat m c).before (3 : Fin 4) t0_0 d)))
def bodyPost (c : Dev nD) : sProp 𝕄 :=
  iprop(Φend c ∗ (dat m c).owesAt () t0_0.succ
    ∗ stg c cc0_stg0_0 ((given m).p c) ∗ stg c cc0_stg1_0 ((given m).x c) ∗ stg c cc0_stg2_0 ((given m).g c) ∗ stg c cc0_stg3_0 (outAt (given m) c))

/-- The body from the region's state before it to the region's state after it. -/
theorem body_steps (c : Dev nD) : bodyPre m c ⊢ wpc c (steps c) fun _ => bodyPost m c := by
  unfold bodyPre Φstart
  iintro ⟨⟨⟨%K, HK⟩, Hs, Hb, Hreg⟩, HO, ⟨%d0, %g0, %e0, Hp⟩, ⟨%d1, %g1, %e1, Hx⟩, ⟨%d2, %g2, %e2, Hg⟩, ⟨%d3, %g3, -, Ho⟩⟩
  obtain rfl : g0 = (given m).p c := e0.trans (fetch_p m c d0)
  obtain rfl : g1 = (given m).x c := e1.trans (fetch_x m c d1)
  obtain rfl : g2 = (given m).g c := e2.trans (fetch_g m c d2)
  ihave HO := (debt_elim m c t0_0.castSucc (owed₀ c) rfl) $$ HO
  iapply (wp_steps (given m) K c g3)
  isplitl [HK]; · iexact HK
  isplitl [Hs]; · iexact Hs
  isplitl [Hb]; · iexact Hb
  isplitl [Hp Hx Hg Ho]
  · unfold staged
    isplitl [Hp]; · iexact Hp
    isplitl [Hx]; · iexact Hx
    isplitl [Hg] <;> iassumption
  isplitl [HO]; · iexact HO
  unfold staged bodyPost Φend
  iintro ⟨He, Hb, ⟨Hp, Hx, Hg, Ho⟩, HO⟩
  isplitl [He Hb Hreg]
  · isplitl [He]; · iexact He
    isplitl [Hb] <;> iassumption
  isplitl [HO]; · iapply (debt_intro m c t0_0.succ 0 rfl); iexact HO
  isplitl [Hp]
  · iexists _; isplitr; · (ipureintro; rfl)
    iexact Hp
  isplitl [Hx]
  · iexists _; isplitr; · (ipureintro; rfl)
    iexact Hx
  isplitl [Hg]
  · iexists _; isplitr; · (ipureintro; rfl)
    iexact Hg
  iexists _; isplitr; · (ipureintro; rfl)
  iexact Ho

/-- The body meets the region's obligation. -/
theorem body_obligation (c : Dev nD) : BodyObligation (dat (F := F) m c) (defs₀ (F := F)) 𝒱₀ () Set.univ := fun t => by
  rw [fin_N0 t]
  rw [bigSep_W0, bigSep_W0]
  simp only [owns_buffer]
  show bodyPre m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  rw [body_eq_steps, wp_deviceId]
  exact body_steps m c

end Cert.KernelIdeal.Norm

end
-- ==== Proof.KernelIdeal.Segments.lean ====
/- The program as two stretches: the reshapes on the host, then the kernel. -/
module

public import proofs.«01_k».proof.Proof.KernelIdeal.Region

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What a device brings to the kernel -/

/-- From the launch: the protocol's names, the handshake's resources, the copies' tokens and credit, and the right to open each copy's semaphore. -/
def Tk (c : Dev nD) : sProp 𝕄 :=
  iprop((∃ K, known (given m) K) ∗ helloA c ∗ every (toks c)
    ∗ (bigSep Finset.univ fun i : Fin 4 × Fin 8 => openTok ER (cell i.1 c i.2)) ∗ every (creds c))
/-- The same with the copies' semaphores opened. -/
def Xk (c : Dev nD) : sProp 𝕄 := iprop((∃ K, known (given m) K) ∗ startLive c)
/-- What it takes away: the handshake's semaphore at zero. -/
def Yk (c : Dev nD) : sProp 𝕄 := semVal (barCell c) 0

/-- The copies' semaphores, two indices each. -/
abbrev osem (i : Fin 4 × Fin 8) : SemLoc sig := dsem i.1 i.2

/-- One copy's semaphore, at zero, opened. -/
theorem open_one (K : GSem nD τ sig → ℕ) (c : Dev nD) (i : Fin 4 × Fin 8) :
    iprop(known (given m) K ∗ (openTok ER (cell i.1 c i.2) ∗ semVal (cell i.1 c i.2) 0)) ⊢ (|={Set.univ}=> ready i.1 c i.2 : sProp 𝕄) := by
  iintro ⟨#HK, Ho, Hz⟩
  ihave #Hi := (known_copy (given m) K i.1 c i.2) $$ HK
  imod (Rounds.cell_open ER (sched (given m)) (Set.mem_univ (K (cell i.1 c i.2)))) $$ [Ho Hz] with ⟨Hat, #Hr⟩
  · isplitr; · iexact Hi
    isplitl [Ho] <;> iassumption
  imodintro
  unfold ready
  isplitl [Hat]; · iexact Hat
  iexact Hr

/-- All copies' semaphores opened. -/
theorem open_all (c : Dev nD) : iprop(Tk m c ∗ Pipeline.ownSems0 osem c ∗ levAts L lv) ⊢ (|={Set.univ}=> Xk m c : sProp 𝕄) := by
  unfold Tk Xk startLive Pipeline.ownSems0
  iintro ⟨⟨⟨%K, #HK⟩, Hh, Ht, Ho, Hc⟩, Hz, -⟩
  ihave Hoz := (Entails.of_eq (bigSep_sep' Finset.univ (fun i : Fin 4 × Fin 8 => (openTok ER (cell i.1 c i.2) : sProp 𝕄))
    (fun i : Fin 4 × Fin 8 => (semVal (cell i.1 c i.2) 0 : sProp 𝕄))).symm) $$ [Ho Hz]
  · isplitl [Ho] <;> iassumption
  ihave Hup := (bigSep_with_persistent (R := known (given m) K) (Φ := fun i : Fin 4 × Fin 8 => iprop(openTok ER (cell i.1 c i.2) ∗ semVal (cell i.1 c i.2) 0))
    (Ψ := fun i => iprop(|={Set.univ}=> ready i.1 c i.2)) fun i _ => open_one m K c i) $$ [Hoz]
  · isplitr; · iexact HK
    iexact Hoz
  imod (bigSep_fupd) $$ Hup with Hr
  imodintro
  isplitr; · iexists K; iexact HK
  isplitl [Hh]; · iexact Hh
  isplitl [Ht]; · iexact Ht
  isplitl [Hr] <;> iassumption

/-! ## The kernel's memory before and after -/

/-- The buffers the kernel neither reads nor writes. -/
abbrev others : Finset (DevRef τ sig) := Pipeline.ucRefs τ sig \ Pipeline.arrRefs (τ := τ) (pcfgs (F := F) 0).spec
theorem arr_sub : Pipeline.arrRefs (τ := τ) (pcfgs (F := F) 0).spec ⊆ Pipeline.ucRefs τ sig :=
  Pipeline.arrRefs_sub_ucRefs _ (by decide : ∀ w : Fin 4, (Pipeline.arrRef spec0 w).isScoped = false)
theorem result_mem : (Proc.devRef .tc main_v3 : DevRef τ sig) ∈ Pipeline.arrRefs (τ := τ) (pcfgs (F := F) 0).spec :=
  Finset.mem_map_of_mem _ (Finset.mem_image.mpr ⟨(3 : Fin 4), Finset.mem_univ _, rfl⟩)

/-- The kernel changes no other buffer. -/
theorem others_same (c : Dev nD) (b : DevRef τ sig) (hb : b ∈ others (F := F)) : V₂ m c b = V₁ m c b :=
  Function.update_of_ne (fun h => (Finset.mem_sdiff.mp hb).2 (by rw [h]; exact result_mem (F := F))) _ _

/-- The kernel's result array, written whole. -/
theorem result_arr (c : Dev nD) : (dat m c).arrAt (3 : Fin 4) cfg0.N = outAt (given m) c := by
  have h := (dat m c).arrAt_succ (3 : Fin 4) t0_0
  rw [if_pos (flush0_3 t0_0)] at h
  refine (show (dat m c).arrAt (3 : Fin 4) cfg0.N = (dat m c).arrAt (3 : Fin 4) (t0_0.val + 1) from rfl).trans (h.trans ?_)
  exact Memref.write_access_unit_zero_univ (Elt F) main_v3 zero₂ (by decide) _ (outAt (given m) c)

/-- The arrays after the kernel: the result written, the operands as they were. -/
theorem arr_after (c : Dev nD) (w : Fin 4) : (dat m c).arrAt w cfg0.N = V₂ m c (Proc.devRef .tc (Pipeline.arrRef spec0 w)) := by
  have hin (w : Fin 4) (h : (cfg0.win w).isOut = false) (hne : (Proc.devRef .tc (Pipeline.arrRef spec0 w) : DevRef τ sig) ≠ Proc.devRef .tc main_v3) :
      (dat m c).arrAt w cfg0.N = V₂ m c (Proc.devRef .tc (Pipeline.arrRef spec0 w)) :=
    ((dat m c).arrAt_in w h _).trans (show V₂ m c _ = V₁ m c _ from Function.update_of_ne hne _ _).symm
  match w with
  | ⟨0, _⟩ => exact hin 0 rfl (by decide)
  | ⟨1, _⟩ => exact hin 1 rfl (by decide)
  | ⟨2, _⟩ => exact hin 2 rfl (by decide)
  | ⟨3, _⟩ => exact (result_arr m c).trans (show V₂ m c (Proc.devRef .tc main_v3) = _ from Function.update_self _ _ _).symm

/-! ## The two stretches -/

/-- Staging is idle in the protocol. -/
theorem stage_idle : ∀ (w : Fin 4) (s : Fin (spec0 w).nbuf), role (.dma ((spec0 w).sem s)) = .idle := by decide +kernel

/-- What a device owes around the kernel lies above the staging semaphores. -/
theorem owed_above (c : Dev nD) (t : Fin (cfg0.N + 1)) (g : GSem nD τ sig) (u : Unit) (h : 0 < (dat m c).owed t g u) : u ∈ L g ∧ 0 < lv g u := by
  match t with
  | ⟨0, _⟩ =>
    rcases owed₀_pos c h with ⟨d, rfl⟩ | ⟨d, r, rfl⟩ | ⟨d, r, rfl⟩
    · exact ⟨mem_L u rfl, by rw [lv_bar]; decide⟩
    · exact ⟨mem_L u rfl, by rw [lv_copy]; decide⟩
    · exact ⟨mem_L u rfl, by rw [lv_copy]; decide⟩
  | ⟨_ + 1, _⟩ => exact absurd h (Nat.lt_irrefl 0)

/-- Into the body: the scratch buffers and the device's resources. -/
theorem enter (c : Dev nD) : iprop(Pipeline.scopedRest spec0 c ∗ (∃ r, prngReg c r) ∗ StableHlo.held (c.tc : Thread nD τ) ∅ (V₁ m c) ∗ Xk m c)
    ⊢ Φstart m c := by
  rw [scopedRest0_eq]
  unfold Φstart Xk bufs₃
  iintro ⟨Hb, Hp, -, HK, Hs⟩
  isplitl [HK]; · iexact HK
  isplitl [Hs]; · iexact Hs
  isplitl [Hb] <;> iassumption

/-- Out of the body: every semaphore at zero, the scratch buffers given back. -/
theorem leave (c : Dev nD) : (Φend c : sProp 𝕄)
    ⊢ iprop(Pipeline.scopedRest spec0 c ∗ (∃ r, prngReg c r) ∗ StableHlo.held (c.tc : Thread nD τ) ∅ (V₂ m c) ∗ Pipeline.ownSems0 osem c ∗ Yk c) := by
  rw [scopedRest0_eq]
  unfold Φend endLive Yk bufs₃ Pipeline.ownSems0 StableHlo.held
  rw [BI.bigSep_empty]
  iintro ⟨⟨Hb0, Hz⟩, Hb, Hp⟩
  isplitl [Hb]; · iexact Hb
  isplitl [Hp]; · iexact Hp
  isplitr; · iempintro
  isplitl [Hz] <;> iassumption

/-- What rides along the reshapes. -/
def R (c : Dev nD) : sProp 𝕄 := iprop(Tk m c ∗ (∃ r, prngReg c r) ∗ ∃ W, owes (c : Thread nD τ) (owed₀ c) W)

/-- The reshapes on the host. -/
def hostSeg : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (V₀ m) (R m)

set_option backward.isDefEq.respectTransparency.types false in
/-- The kernel. -/
def kernelSeg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ (others (F := F)) (Finset.empty_subset _) launch0.toP rfl (fun c => (body_obligation m c).loose)
    (fun _ => 0) owed₀ (fun c => (zero_add _).symm) (fun _ => rfl) (fun _ => rfl) (fun c => (dat m c).share_full fun _ => rfl)
    (V₁ m) (V₂ m) (fun c b hb => others_same m c b (Finset.mem_sdiff.mp hb).1)
    (Tk m) Yk (Xk m) Yk (open_all m) (enter m) (leave m)
    (fun c => by iintro H; imodintro; iexact H)
    (fun _ => 0)
    ⟨fun _ _ _ => mem_L _ rfl, fun _ w s => by
        show lv (_, .dma ((spec0 w).sem s)) () ≤ 0
        unfold lv; rw [stage_idle],
      fun c t g u h => owed_above m c t g u h⟩
    (fun _ => iprop(emp))
    (fun _ _ => rfl) (fun c w => arr_after m c w)

/-- From the reshapes to the kernel. -/
theorem kernel_pre (c : Dev nD) : iprop(StableHlo.held (c.tc : Thread nD τ) (Pipeline.ucRefs τ sig) (V₁ m c) ∗ R m c) ⊢ (kernelSeg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) (others (F := F)) (V₁ m c) ∗ emp) ∗ Tk m c ∗ ∃ Wd, owes (c : Thread nD τ) (0 + owed₀ c) Wd)
  rw [StableHlo.held_sub_split (c.tc : Thread nD τ) (arr_sub (F := F)) (V₁ m c), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What each device holds at the end. -/
abbrev Tₙ (c : Dev nD) : sProp 𝕄 := iprop(StableHlo.held (c.tc : Thread nD τ) (Pipeline.ucRefs τ sig) (V₂ m c) ∗ semVal (barCell c) 0)

/-- From the kernel to the end. -/
theorem kernel_post (c : Dev nD) : (kernelSeg m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) (others (F := F)) (V₂ m c) ∗ emp) ∗ Yk c ∗ ∃ Wd, owes (c : Thread nD τ) (0 : CellTallies nD τ sig Unit) Wd) ⊢ _
  unfold Tₙ
  rw [StableHlo.held_sub_split (c.tc : Thread nD τ) (arr_sub (F := F)) (V₂ m c)]
  unfold Yk
  iintro ⟨Ha, -, ⟨Hr, -⟩, Hb, HO⟩
  isplitr [HO]
  · isplitr [Hb]
    · isplitl [Ha] <;> iassumption
    iexact Hb
  iexact HO

/-- The program's stretches in order. -/
def segs : List (Pipeline.Seg (pcfgs (F := F)) adm (pdats m) () defs₀ 𝒱₀ L lv) := [.host (hostSeg m), .region (kernelSeg m)]

theorem main_eq (c : Dev nD) : main (F := F) c = Pipeline.Seg.run (segs m) :=
  main_segs adm (pdats m) () 𝒱₀ L lv (hostSeg m) (kernelSeg m) rfl c

end Cert.KernelIdeal.Norm

end
-- ==== Proof.KernelIdeal.Deal.lean ====
/- The launch: every token and credit dealt to the device that uses it, and the program's run. -/
module

public import proofs.«01_k».proof.Proof.KernelIdeal.Segments

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-! ## Cells and tokens -/

/-- No handshake cell is a copy's. -/
theorem cells_apart : Disjoint barCells copyCells := by
  rw [Finset.disjoint_left]
  intro g h₁ h₂
  obtain ⟨c, -, rfl⟩ := Finset.mem_map.mp h₁
  obtain ⟨⟨c', k, r⟩, -, h⟩ := Finset.mem_map.mp h₂
  have := congrArg role (congrArg Prod.snd h)
  dsimp only [Function.Embedding.coeFn_mk] at this
  rw [role_copy, role_bar] at this
  exact Role.noConfusion this

/-- Each handshake cell has two tokens, each copy's cell one. -/
def barToks : Finset (GSem nD τ sig × ℕ × Bool) :=
  Finset.univ.map ⟨fun i : Dev nD × Bool => (barCell i.1, 0, i.2), fun _ _ h =>
    Prod.ext (barCell_inj (congrArg Prod.fst h)) (congrArg (fun t : GSem nD τ sig × ℕ × Bool => t.2.2) h)⟩
def copyToks : Finset (GSem nD τ sig × ℕ × Bool) :=
  Finset.univ.map ⟨fun i : Dev nD × Fin 4 × Fin 8 => (copyCell i, 0, false), fun _ _ h => copyCell_inj (congrArg Prod.fst h)⟩

theorem toks_apart : Disjoint barToks copyToks := by
  rw [Finset.disjoint_left]
  intro g h₁ h₂
  obtain ⟨i, -, rfl⟩ := Finset.mem_map.mp h₁
  obtain ⟨j, -, h⟩ := Finset.mem_map.mp h₂
  exact Finset.disjoint_left.mp cells_apart (Finset.mem_map_of_mem ⟨barCell, barCell_inj⟩ (Finset.mem_univ i.1))
    (Finset.mem_map.mpr ⟨j, Finset.mem_univ _, congrArg Prod.fst h⟩)

def xeq : Dev nD ≃ Dev nD := ⟨xn, xn, xn_xn, xn_xn⟩
def yeq : Dev nD ≃ Dev nD := ⟨yn, yn, yn_yn, yn_yn⟩

theorem bool_pair (Φ : Bool → sProp 𝕄) : bigSep Finset.univ Φ = iprop(Φ true ∗ Φ false) :=
  bigSep_univ_eq_bigSepL [true, false] (by decide) (by decide) Φ

/-- Families over the devices, one dealt along x and one along y. -/
theorem around₂ (A B : Dev nD → sProp 𝕄) :
    (bigSep Finset.univ fun c => iprop(A c ∗ B c)) = bigSep Finset.univ fun c => iprop(A (xn c) ∗ B (yn c)) := by
  rw [bigSep_sep' _ A B, bigSep_sep' _ (fun c => A (xn c)) (fun c => B (yn c)), bigSep_univ_equiv xeq A, bigSep_univ_equiv yeq B]
  rfl
theorem around₄ (A B C D : Dev nD → sProp 𝕄) :
    (bigSep Finset.univ fun c => iprop(A c ∗ B c ∗ C c ∗ D c)) = bigSep Finset.univ fun c => iprop(A c ∗ B (xn c) ∗ C c ∗ D (yn c)) := by
  rw [bigSep_sep' _ A, bigSep_sep' _ B, bigSep_sep' _ C D, bigSep_sep' _ A (fun c => iprop(B (xn c) ∗ C c ∗ D (yn c))),
    bigSep_sep' _ (fun c => B (xn c)), bigSep_sep' _ C (fun c => D (yn c)), bigSep_univ_equiv xeq B, bigSep_univ_equiv yeq D]
  rfl

/-- Four families over the chunks of every device, dealt likewise. -/
theorem around_chunks (Φ : Fin 4 → Dev nD → Fin 8 → sProp 𝕄) :
    (bigSep Finset.univ fun c : Dev nD => bigSep Finset.univ fun i : Fin 4 × Fin 8 => Φ i.1 c i.2)
      = bigSep Finset.univ fun c : Dev nD => every fun r => iprop(Φ 0 c r ∗ Φ 1 (xn c) r ∗ Φ 2 c r ∗ Φ 3 (yn c) r) := by
  have h (A B C D : Fin 8 → sProp 𝕄) : (every fun r => iprop(A r ∗ B r ∗ C r ∗ D r)) = iprop(every A ∗ every B ∗ every C ∗ every D) := by
    rw [every_sep, every_sep, every_sep]
  rw [bigSep_congr (s := Finset.univ) fun (c : Dev nD) _ => (by_chunk fun k r => Φ k c r).trans (h _ _ _ _),
    around₄ (fun c => every (Φ 0 c)) (fun c => every (Φ 1 c)) (fun c => every (Φ 2 c)) (fun c => every (Φ 3 c))]
  exact bigSep_congr fun c _ => (h _ _ _ _).symm

/-- The tokens of the handshakes' cells, as the devices pay them. -/
theorem deal_bar : (bigSep barToks fun x => (dutyTok ER x.1 x.2.1 x.2.2 : sProp 𝕄))
    = bigSep Finset.univ fun c : Dev nD => iprop(dutyTok ER (barCell (xn c)) 0 true ∗ dutyTok ER (barCell (yn c)) 0 false) := by
  unfold barToks
  rw [bigSep_map, bigSep_univ_prod, bigSep_congr (s := Finset.univ) fun c _ => bool_pair _]
  exact around₂ (fun c => dutyTok ER (barCell c) 0 true) (fun c => dutyTok ER (barCell c) 0 false)
/-- The tokens of the copies' cells, as the devices pay them. -/
theorem deal_copy : (bigSep copyToks fun x => (dutyTok ER x.1 x.2.1 x.2.2 : sProp 𝕄)) = bigSep Finset.univ fun c : Dev nD => every (toks c) := by
  unfold copyToks
  rw [bigSep_map, bigSep_univ_prod]
  exact around_chunks fun k c r => dutyTok ER (cell k c r) 0 false

/-! ## The credit of the launch -/

/-- Credit on one copy's cell, seen from another. -/
theorem tally_copy (k k' : Fin 4) (d c : Dev nD) (r r' : Fin 8) :
    (tallyAt (cell k' d r') () N : CellTallies nD τ sig Unit) (cell k c r) () = if d = c ∧ k' = k ∧ r' = r then N else 0 := by
  rw [tallyAt_apply]
  refine if_congr ⟨fun ⟨h, _⟩ => ?_, fun ⟨h₁, h₂, h₃⟩ => by subst h₁ h₂ h₃; exact ⟨rfl, rfl⟩⟩ rfl rfl
  have := copyCell_inj (a₁ := (c, k, r)) (a₂ := (d, k', r')) h
  exact ⟨(congrArg Prod.fst this).symm, (congrArg (fun t : Dev nD × Fin 4 × Fin 8 => t.2.1) this).symm,
    (congrArg (fun t : Dev nD × Fin 4 × Fin 8 => t.2.2) this).symm⟩
/-- Credit on one handshake cell, seen from another. -/
theorem tally_bar (d c : Dev nD) : (tallyAt (barCell d) () 1 : CellTallies nD τ sig Unit) (barCell c) () = if d = c then 1 else 0 := by
  rw [tallyAt_apply]
  exact if_congr ⟨fun ⟨h, _⟩ => (barCell_inj h).symm, fun h => by subst h; exact ⟨rfl, rfl⟩⟩ rfl rfl

theorem bar_ne_copy (c : Dev nD) (k : Fin 4) (d : Dev nD) (r : Fin 8) : barCell c ≠ cell k d r := fun h =>
  Finset.disjoint_left.mp cells_apart (Finset.mem_map_of_mem ⟨barCell, barCell_inj⟩ (Finset.mem_univ c))
    (Finset.mem_map.mpr ⟨(d, k, r), Finset.mem_univ _, h.symm⟩)

/-- A device owes one unit to each neighbour's handshake. -/
theorem owed_bar (d c : Dev nD) : owed₀ d (barCell c) () = (if d = yn c then 1 else 0) + if d = xn c then 1 else 0 := by
  have h0 : owed₂ d (barCell c) () = 0 := Nat.eq_zero_of_not_pos fun h => by
    rcases owed₂_pos d h with ⟨r, h⟩ | ⟨r, h⟩
    · exact bar_ne_copy _ _ _ _ h
    · exact bar_ne_copy _ _ _ _ h
  unfold owed₀
  rw [Pi.add_apply, Finsupp.add_apply, Pi.add_apply, Finsupp.add_apply, h0, tally_bar, tally_bar, Nat.zero_add]
  congr 1
  · exact if_congr ⟨fun h => by rw [← h, yn_yn], fun h => by rw [h, yn_yn]⟩ rfl rfl
  · exact if_congr ⟨fun h => by rw [← h, xn_xn], fun h => by rw [h, xn_xn]⟩ rfl rfl

theorem owedX_at (d c : Dev nD) (r : Fin 8) : ∀ l : List (Fin 8), owedX d l (cell 1 c r) () = if xn d = c then l.count r * N else 0
  | [] => by rw [List.count_nil, Nat.zero_mul, ite_self]; rfl
  | r' :: l => by
    show (owedX d l + tallyAt (cell 1 (xn d) r') () N) (cell 1 c r) () = _
    rw [Pi.add_apply, Finsupp.add_apply, owedX_at d c r l, tally_copy, List.count_cons]
    by_cases h : xn d = c <;> by_cases h' : r' = r <;> simp [h, h', Nat.add_mul]
theorem owedY_at (d c : Dev nD) (r : Fin 8) : ∀ l : List (Fin 8), owedY d l (cell 3 c r) () = if yn d = c then l.count r * N else 0
  | [] => by rw [List.count_nil, Nat.zero_mul, ite_self]; rfl
  | r' :: l => by
    show (owedY d l + tallyAt (cell 3 (yn d) r') () N) (cell 3 c r) () = _
    rw [Pi.add_apply, Finsupp.add_apply, owedY_at d c r l, tally_copy, List.count_cons]
    by_cases h : yn d = c <;> by_cases h' : r' = r <;> simp [h, h', Nat.add_mul]

theorem chunks_once : ∀ r : Fin 8, chunks.count r = 1 := by decide

/-- A copy's cell owes nothing to the handshake. -/
theorem bar_at_copy (d c : Dev nD) (k : Fin 4) (r : Fin 8) : (tallyAt (barCell d) () 1 : CellTallies nD τ sig Unit) (cell k c r) () = 0 :=
  Nat.eq_zero_of_not_pos fun h => bar_ne_copy d k c r (tallyAt_pos h).symm

theorem kind_ne {k k' : Fin 4} (h : k ≠ k') (c c' : Dev nD) (r r' : Fin 8) : cell k c r ≠ cell k' c' r' := fun e =>
  h (congrArg (fun t : Dev nD × Fin 4 × Fin 8 => t.2.1) (copyCell_inj (a₁ := (c, k, r)) (a₂ := (c', k', r')) e))

/-- An arrival along x is owed by the neighbour along x alone; an arrival along y by the neighbour along y alone. -/
theorem owed_x (d c : Dev nD) (r : Fin 8) : owed₀ d (cell 1 c r) () = if d = xn c then N else 0 := by
  have h0 : owedY d chunks (cell 1 c r) () = 0 := Nat.eq_zero_of_not_pos fun h => by
    obtain ⟨r', h⟩ := owedY_pos d _ h
    exact kind_ne (by decide) _ _ _ _ h
  unfold owed₀ owed₂
  simp only [Pi.add_apply, Finsupp.add_apply]
  rw [h0, owedX_at, bar_at_copy, bar_at_copy, chunks_once, Nat.zero_add, Nat.add_zero, Nat.one_mul]
  exact if_congr ⟨fun h => by rw [← h, xn_xn], fun h => by rw [h, xn_xn]⟩ rfl rfl
theorem owed_y (d c : Dev nD) (r : Fin 8) : owed₀ d (cell 3 c r) () = if d = yn c then N else 0 := by
  have h0 : owedX d chunks (cell 3 c r) () = 0 := Nat.eq_zero_of_not_pos fun h => by
    obtain ⟨r', h⟩ := owedX_pos d _ h
    exact kind_ne (by decide) _ _ _ _ h
  unfold owed₀ owed₂
  simp only [Pi.add_apply, Finsupp.add_apply]
  rw [h0, owedY_at, bar_at_copy, bar_at_copy, chunks_once, Nat.add_zero, Nat.one_mul]
  exact if_congr ⟨fun h => by rw [← h, yn_yn], fun h => by rw [h, yn_yn]⟩ rfl rfl

/-- A cell's credit at launch is the sum of what all devices owe it. -/
theorem credit_eq (g : GSem nD τ sig) (n : ℕ) (h : ∑ d : Dev nD, owed₀ d g () = n) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, h]

theorem sum_one (e : Dev nD) (n : ℕ) : (∑ d : Dev nD, if d = e then n else 0) = n := by
  rw [Finset.sum_ite_eq' Finset.univ e fun _ => n, if_pos (Finset.mem_univ _)]

theorem credit_bar (c : Dev nD) : tallyOn (barCell c) (launchCredit (Pipeline.owing owed₀) 0 (barCell c)) = (tallyAt (barCell c) () 2 : CellTallies nD τ sig Unit) :=
  credit_eq _ _ (by rw [Finset.sum_congr rfl fun d _ => owed_bar d c, Finset.sum_add_distrib, sum_one, sum_one])
theorem credit_x (c : Dev nD) (r : Fin 8) : tallyOn (cell 1 c r) (launchCredit (Pipeline.owing owed₀) 0 (cell 1 c r)) = (tallyAt (cell 1 c r) () N : CellTallies nD τ sig Unit) :=
  credit_eq _ _ (by rw [Finset.sum_congr rfl fun d _ => owed_x d c r, sum_one])
theorem credit_y (c : Dev nD) (r : Fin 8) : tallyOn (cell 3 c r) (launchCredit (Pipeline.owing owed₀) 0 (cell 3 c r)) = (tallyAt (cell 3 c r) () N : CellTallies nD τ sig Unit) :=
  credit_eq _ _ (by rw [Finset.sum_congr rfl fun d _ => owed_y d c r, sum_one])

/-- The two kinds of arrivals. -/
def arrive : Fin 2 × Fin 8 ↪ SemLoc sig :=
  ⟨fun i => dsem (if i.1 = 0 then 1 else 3) i.2, fun i j h => by
    have := dsem_inj _ _ _ _ h
    obtain ⟨a, r⟩ := i; obtain ⟨b, s⟩ := j
    have h₁ := congrArg Prod.fst this
    have h₂ : r = s := congrArg Prod.snd this
    exact Prod.ext ((by decide : ∀ a b : Fin 2, (if a = 0 then (1 : Fin 4) else 3) = (if b = 0 then 1 else 3) → a = b) a b h₁) h₂⟩

/-- A device's credit at launch, for the handshake and for all arrivals. -/
theorem credits (c : Dev nD) : (Pipeline.launchCred owed₀ c : sProp 𝕄) ⊢ iprop(cred (tallyAt (barCell c) () 2) ∗ every (creds c)) := by
  unfold Pipeline.launchCred
  rw [bigSep_univ_at _ (SemLoc.reg barS), credit_bar]
  refine sep_mono_right ((bigSep_subset (t := Finset.univ.map arrive) ?_).trans ?_)
  · intro sm h
    obtain ⟨i, -, rfl⟩ := Finset.mem_map.mp h
    exact Finset.mem_erase.mpr ⟨fun e => bar_ne_copy c _ c i.2 (congrArg (fun s => ((c : Thread nD τ), s)) e.symm), Finset.mem_univ _⟩
  · rw [bigSep_map, bigSep_univ_prod, BI.bigSep_fin_two]
    refine (Entails.of_eq (bigSep_sep' _ _ _).symm).trans (every_mono fun r => ?_)
    unfold creds
    rw [← credit_x, ← credit_y]
    exact BI.Entails.refl _

end Cert.KernelIdeal.Norm

end
-- ==== Proof.KernelIdeal.Run.lean ====
/- The program's run: from any memory with all semaphores at zero it ends, with the result on every device and the semaphores back at zero. -/
module

public import proofs.«01_k».proof.Proof.KernelIdeal.Deal

@[expose] public section

set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

/-- The launch's ghost state: the staging's, and the protocol's with every token. -/
def u₀ : UU :=
  (initOf (Pipeline.cells (Pipeline.pin (pcfgs (F := F)) adm) Gen.cellOf_inj) (Pipeline.launchToks (Pipeline.pin (pcfgs (F := F)) adm) Gen.cellOf_inj),
    launchOf barCells copyCells (barToks ∪ copyToks))

/-- The protocol's share of it, kept by the first device until all devices are at hand. -/
def G (c : Dev nD) : sProp 𝕄 := if c = 0 then BI.own (ER (launchOf barCells copyCells (barToks ∪ copyToks))) else iprop(emp)
theorem G_all : bigSep Finset.univ (G (F := F)) = BI.own (ER (launchOf barCells copyCells (barToks ∪ copyToks))) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The only semaphore that outlives a kernel is the handshake's. -/
theorem outlives : ∀ sm : SemLoc sig, sm.isScoped .tc = false → sm = .reg barS := by decide +kernel
theorem unscopedSems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What every device may consult: the protocol's names, and that all handshakes are at their first round. -/
def shared (K : GSem nD τ sig → ℕ) : sProp 𝕄 := iprop(known (given m) K ∗ bigSep barCells fun g => reached ER g 0)
instance shared_persistent (K : GSem nD τ sig → ℕ) : BI.Persistent (shared m K) := by unfold shared; infer_instance

theorem shared_reached (K : GSem nD τ sig → ℕ) (c : Dev nD) : shared m K ⊢ reached ER (barCell c) 0 := by
  unfold shared
  exact sep_elim_right.trans (BI.bigSep_elim (s := barCells) (i := barCell c) (Finset.mem_map_of_mem ⟨barCell, barCell_inj⟩ (Finset.mem_univ c)))

/-- What is a device's own: its memory, its debt and its credit. -/
def mine (c : Dev nD) : sProp 𝕄 :=
  iprop(StableHlo.held (c.tc : Thread nD τ) (Pipeline.ucRefs τ sig) (V₀ m c) ∗ (cred (tallyAt (barCell c) () 2) ∗ every (creds c))
    ∗ owes (c : Thread nD τ) (owed₀ c) ∅ ∗ ∃ r, prngReg c r)
/-- What the protocol gives it: its place in its handshake, the right to open its copies' semaphores, and the tokens of what it pays. -/
def lot (c : Dev nD) : sProp 𝕄 :=
  iprop(atPos ER (barCell c) 0 ∅ 0 ∗ (bigSep Finset.univ fun i : Fin 4 × Fin 8 => openTok ER (cell i.1 c i.2))
    ∗ (dutyTok ER (barCell (xn c)) 0 true ∗ dutyTok ER (barCell (yn c)) 0 false) ∗ every (toks c))

/-- What each device starts with. -/
abbrev T₀ (c : Dev nD) : sProp 𝕄 := iprop(StableHlo.held (c.tc : Thread nD τ) (Pipeline.ucRefs τ sig) (V₀ m c) ∗ R m c)

theorem T₀_intro (K : GSem nD τ sig → ℕ) (c : Dev nD) : iprop(shared m K ∗ (lot c ∗ mine m c)) ⊢ T₀ m c := by
  unfold T₀ R Tk helloA lot mine
  iintro ⟨#HR, ⟨Hat, Hop, ⟨Htx, Hty⟩, Ht⟩, Hh, ⟨Hcb, Hcs⟩, HO, Hp⟩
  ihave #Hx := (shared_reached m K (xn c)) $$ HR
  ihave #Hy := (shared_reached m K (yn c)) $$ HR
  unfold shared
  icases HR with ⟨#HK, -⟩
  isplitl [Hh]; · iexact Hh
  isplitr [HO Hp]
  · isplitr; · iexists K; iexact HK
    isplitl [Hat Hcb Htx Hty]
    · isplitl [Hat]; · iexact Hat
      isplitl [Hcb]; · iexact Hcb
      isplitl [Htx]; · iexact Htx
      isplitr; · iexact Hx
      isplitl [Hty]; · iexact Hty
      iexact Hy
    isplitl [Ht]; · iexact Ht
    isplitl [Hop] <;> iassumption
  isplitl [Hp]; · iexact Hp
  iexists ∅; iexact HO

/-- A device's launch holdings, sorted. -/
theorem sorted (c : Dev nD) : iprop(unscopedBufs c (fun b => m ((c : Thread nD τ).loc b)) ∗ unscopedSems0 c
      ∗ owes (c : Thread nD τ) (owed₀ c) ∅ ∗ Pipeline.launchCred owed₀ c ∗ prngReg c (ρ c) ∗ G c)
    ⊢ (iprop(mine m c ∗ (semVal (barCell c) 0 ∗ G c)) : sProp 𝕄) := by
  rw [show unscopedBufs c (fun b => m ((c : Thread nD τ).loc b)) = StableHlo.held (c.tc : Thread nD τ) (Pipeline.ucRefs τ sig) (V₀ m c)
      from Pipeline.unscopedBufs_held c (V₀ m c), unscopedSems]
  unfold mine
  iintro ⟨Hh, Hb, HO, Hcr, Hp, HG⟩
  ihave Hc := (credits (F := F) c) $$ Hcr
  isplitl [Hh HO Hc Hp]
  · isplitl [Hh]; · iexact Hh
    isplitl [Hc]; · iexact Hc
    isplitl [HO]; · iexact HO
    iexists (ρ c); iexact Hp
  isplitl [Hb] <;> iassumption

/-- Dealing the launch to the devices. -/
theorem launch :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) ⟨barCell, barCell_inj⟩ (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) ⟨barCell, barCell_inj⟩ (Φ := fun g : GSem nD τ sig => (atPos ER g 0 ∅ 0 : sProp 𝕄)))
  have hop : bigSep copyCells (fun g => (openTok ER g : sProp 𝕄))
      ⊢ bigSep Finset.univ (fun c : Dev nD => bigSep Finset.univ fun i : Fin 4 × Fin 8 => openTok ER (cell i.1 c i.2)) :=
    Entails.of_eq (by unfold copyCells; rw [bigSep_map, bigSep_univ_prod]; rfl)
  have htok : (bigSep (barToks ∪ copyToks) fun x => (dutyTok ER x.1 x.2.1 x.2.2 : sProp 𝕄))
      ⊢ bigSep Finset.univ fun c : Dev nD => iprop((dutyTok ER (barCell (xn c)) 0 true ∗ dutyTok ER (barCell (yn c)) 0 false) ∗ every (toks c)) := by
    rw [bigSep_union toks_apart, deal_bar, deal_copy]
    exact Entails.of_eq (bigSep_sep' _ _ _).symm
  have hinv (κ : GSem nD τ sig → ℕ) : (bigSep (barCells ∪ copyCells) fun g => (cellInv ER (sched (given m)) (κ g) g : sProp 𝕄))
      ⊢ iprop(bigSep barCells (fun g => cellInv ER (sched (given m)) (κ g) g) ∗ bigSep copyCells (fun g => cellInv ER (sched (given m)) (κ g) g)) :=
    Entails.of_eq (bigSep_union cells_apart)
  have hs : (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ iprop(bigSep Finset.univ (mine m) ∗ bigSep Finset.univ (fun c : Dev nD => semVal (barCell c) 0) ∗ bigSep Finset.univ (G (F := F))) := by
    refine (bigSep_mono fun c _ => sorted m ρ c).trans ?_
    rw [bigSep_sep', bigSep_sep']
    exact BI.Entails.refl _
  iintro ⟨H, #HL⟩
  ihave H := hs $$ H
  icases H with ⟨HB, Hv, HG⟩
  ihave Hu := (Entails.of_eq (G_all (F := F))) $$ HG
  imod (Rounds.fund_launch ER (sched (given m)) cells_apart (fun g _ h => h) (barToks ∪ copyToks)) $$ [Hv Hu] with ⟨%κ, -, #Hinv, #Hr, Hat, Hopen, Htok⟩
  · isplitl [Hv]
    · iapply hv $$ Hv
    · iexact Hu
  imodintro
  iapply (bigSep_with_persistent (R := shared m κ) (Φ := fun c => iprop(lot c ∗ mine m c)) fun c _ => T₀_intro m κ c)
  isplitr
  · unfold shared known
    isplitr
    · ihave #Hi := (hinv κ) $$ Hinv
      icases Hi with ⟨#H₁, #H₂⟩
      isplitr; · iexact H₁
      isplitr; · iexact H₂
      iexact HL
    iexact Hr
  iapply (Entails.of_eq (bigSep_sep' Finset.univ (fun c : Dev nD => lot (F := F) c) (mine m)).symm)
  isplitr [HB]
  · unfold lot
    iapply (Entails.of_eq (bigSep_sep' _ _ _).symm)
    isplitl [Hat]; · iapply hat $$ Hat
    iapply (Entails.of_eq (bigSep_sep' _ _ _).symm)
    isplitl [Hopen]; · iapply hop $$ Hopen
    iapply htok $$ Htok
  · iexact HB

/-! ## The run -/

/-- At the end a device's memory is the one it holds, and its handshake's semaphore is at zero. -/
theorem at_end (c : Dev nD) (s : Phys nD τ sig (Elt F)) :
    iprop(Tₙ m c ∗ SI s) ⊢ iprop(⌜(∀ b ∈ Pipeline.ucRefs τ sig, s.mem.mem ((c : Dev nD), b) = V₂ m c b) ∧ s.mem.sem (barCell c) = 0⌝ ∗ SI s) := by
  unfold Tₙ StableHlo.held
  iintro ⟨⟨Hh, Hb⟩, HSI⟩
  icombine HSI Hb gives %hb
  ihave Hr := (pointsTo_read_all (Pipeline.ucRefs τ sig) (fun b : DevRef τ sig => ((c : Dev nD), b)) (fun b => V₂ m c b) s) $$ [Hh HSI]
  · isplitl [Hh] <;> iassumption
  icases Hr with ⟨%ha, HSI⟩
  isplitr; · ipureintro; exact ⟨ha, by simpa using hb⟩
  iexact HSI

set_option backward.isDefEq.respectTransparency.types false in
/-- From any memory with all semaphores at zero, every run of the program ends; each device then holds what `V₂` says,
    and every semaphore is at zero. -/
theorem run_main : θ_run defs (onTc (τ := τ) (main (F := F))) ⟨m, fun _ => 0, ρ⟩
    (fun r => (∀ c : Dev nD, ∀ b ∈ Pipeline.ucRefs τ sig, r.2.mem ((c : Dev nD), b) = V₂ m c b) ∧ r.2.sem = fun _ => 0) :=
  Pipeline.θ_run_regions_kit_sems (pcfgs (F := F)) adm (pdats m) () Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => kernel_pre m c, fun c => kernel_post m c⟩)
    (hinit := launch m ρ)
    (QY := fun c s => (∀ b ∈ Pipeline.ucRefs τ sig, s.mem ((c : Dev nD), b) = V₂ m c b) ∧ s.sem (barCell c) = 0)
    (hfin := fun c s' => (at_end m c s').trans (by
      iintro ⟨%h, HSI⟩
      imodintro
      isplitr; · ipureintro; exact h
      iexact HSI))
    (hQ := fun s h hs => ⟨fun c => (h c).1, sem_eq_zero hs fun c sm hsm => by
        obtain rfl := outlives sm hsm
        exact (h c).2⟩)

/-- A buffer the program keeps between kernels is one of those the run accounts for. -/
theorem kept (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

/-- The run as the claims read it: the arguments are unchanged, every device holds its result, and every semaphore is at zero. -/
theorem run_result : θ_run defs (onTc (τ := τ) (main (F := F))) ⟨m, fun _ => 0, ρ⟩
    (fun r => (∀ c : Dev nD,
        (r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2))
        ∧ r.2.mem ((c : Thread nD τ).loc main_v3) = outAt (given m) c) ∧ r.2.sem = fun _ => 0) :=
  (θ_run defs (onTc (τ := τ) (main (F := F))) ⟨m, fun _ => 0, ρ⟩).mono (fun r h => ⟨fun c => by
      have hb (b : Ref sig .tc) (hs : b.isScoped = false) := h.1 c (Proc.devRef .tc b) (kept b hs)
      have hn (b : Ref sig .tc) (hne : (Proc.devRef .tc b : DevRef τ sig) ≠ Proc.devRef .tc main_v3) :
          V₂ m c (Proc.devRef .tc b) = V₁ m c (Proc.devRef .tc b) := Function.update_of_ne hne _ _
      exact ⟨⟨(hb main_arg0 rfl).trans ((hn main_arg0 (by decide)).trans (V_main_arg0 m c)),
          (hb main_arg1 rfl).trans ((hn main_arg1 (by decide)).trans (V_main_arg1 m c)),
          (hb main_arg2 rfl).trans ((hn main_arg2 (by decide)).trans (V_main_arg2 m c))⟩,
        (hb main_v3 rfl).trans (show V₂ m c (Proc.devRef .tc main_v3) = _ from Function.update_self _ _ _)⟩, h.2⟩) (run_main m ρ)

end Cert.KernelIdeal.Norm

end
-- ==== Proof.ReferenceIdeal.Outcome.lean ====
/- The reference's result, element by element, and its run from any memory. -/
module

public import proofs.«01_k».proof.Proof.Gen.ReferenceIdeal.Run
public import Idealize.ShloMosaic.Lib.Pointwise

@[expose] public section

set_option maxRecDepth 16384

noncomputable section

namespace Cert.ReferenceIdeal.Norm

open Idealize.ShloMosaic Idealize.ShloMosaic.TcCoe
open Cert.ReferenceIdeal Cert.ReferenceIdeal.Gen
open Idealize.SL.Sem

/-- One normalised element: entry `j` of the row `y`, over the root of the row's mean square plus the small constant, scaled by `g`. -/
def normed (y : Fin 1024 → Ideal .f32) (g : Ideal .f32) (j : Fin 1024) : Ideal .f32 :=
  Ideal.div (y j) (Ideal.sqrt (Ideal.div (∑ k, y k * y k) (Ideal.ofBits .f32 0x44800000#32) + Ideal.ofBits .f32 0x358637BD#32)) * g

/-- The sum over devices plus the residual. -/
def total (P : Vec Ideal S2x1024x1024 .bf16) (X : Vec Ideal S1024x1024 .bf16) : FVec Ideal S1024x1024 .f32 :=
  addf (Host.reduceAdd (extf .f32 P bitsLt_bf16_f32) (constant S_ .f32 0x00000000#32) reducesTo_S2x1024x1024_S1024x1024_d0 h_S_)
    (extf .f32 X bitsLt_bf16_f32)

/-- The rows of `y` over their root mean square, scaled by `G`. -/
def scaled (y : FVec Ideal S1024x1024 .f32) (G : Vec Ideal S1024 .bf16) : FVec Ideal S1024x1024 .f32 :=
  mulf (Host.divf y (broadcastInDim S1024x1024 ![0, 1] bcast_S1024x1_S1024x1024_0_1 (Host.sqrt (addf (Host.divf
      (broadcastInDim S1024x1 ![0] bcast_S1024_S1024x1_0 (Host.reduceAdd (mulf y y) (constant S_ .f32 0x00000000#32) reducesTo_S1024x1024_S1024_d1 h_S_))
      (broadcastInDim S1024x1 ![] bcast_S_S1024x1 (constant S_ .f32 0x44800000#32)))
      (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 (extf .f32 G bitsLt_bf16_f32)))

/-- The reference's result, in terms of its three arguments. -/
def result (P : Vec Ideal S2x1024x1024 .bf16) (X : Vec Ideal S1024x1024 .bf16) (G : Vec Ideal S1024 .bf16) :
    FVec Ideal S1024x1024 .f32 := scaled (total P X) G

/-- An element of the total is the two partial sums' elements and the residual's, added. -/
theorem total_at (P : Vec Ideal S2x1024x1024 .bf16) (X : Vec Ideal S1024x1024 .bf16) (i : Fin 1024) (k : Fin 1024) :
    total P X (ix2 i k) = (P (ix3 0 i k) + P (ix3 1 i k)) + X (ix2 i k) := by
  unfold total
  pointwise
  rw [Fin.sum_univ_two]

/-- An element of the scaled rows is the normalised element of its row. -/
theorem scaled_at (y : FVec Ideal S1024x1024 .f32) (G : Vec Ideal S1024 .bf16) (i : S1024x1024.Idx) :
    scaled y G i = normed (fun k => y (ix2 (i 0) k)) (G (ix1 (i 1))) (i 1) := by
  unfold scaled normed
  pointwise

/-- An element of the reference's result is the normalised element of the sums of its row. -/
theorem result_at (P : Vec Ideal S2x1024x1024 .bf16) (X : Vec Ideal S1024x1024 .bf16) (G : Vec Ideal S1024 .bf16) (i : S1024x1024.Idx) :
    result P X G i = normed (fun k => (P (ix3 0 (i 0) k) + P (ix3 1 (i 0) k)) + X (ix2 (i 0) k)) (G (ix1 (i 1))) (i 1) := by
  unfold result
  rw [scaled_at]
  congr 1
  funext k
  exact total_at P X (i 0) k

/-- The reference's run from any memory with all semaphores at zero: it ends with its result, its arguments as given and the semaphores at zero. -/
theorem run_result (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v17) = result (m ((c : Thread nD τ).loc main_arg0)) (m ((c : Thread nD τ).loc main_arg1)) (m ((c : Thread nD τ).loc main_arg2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0 :=
  (θ_run defs _ _).mono (fun r h => ⟨h, sem_eq_zero_of_no_sems (by decide) r.2⟩) (Cert.ReferenceIdeal.Value.run m ρ)

end Cert.ReferenceIdeal.Norm

end
-- ==== Proof.KernelIdeal.Value.lean ====
/- The result on every device is the reference's, as real numbers: each element is the same normalised element. -/
module

public import proofs.«01_k».proof.Proof.KernelIdeal.Region
public import proofs.«01_k».proof.Proof.ReferenceIdeal.Outcome

@[expose] public section

set_option maxRecDepth 16384

noncomputable section

namespace Cert.KernelIdeal.Norm

open Idealize.ShloMosaic Idealize.ShloMosaic.TcCoe Idealize.ShloMosaic.Tactic
open Cert.KernelIdeal Cert.KernelIdeal.Gen
open Cert.ReferenceIdeal.Norm (normed)

/-! ## A chunk's elements -/

/-- An element of a chunk of the result is the normalised element of the sums of its row. -/
theorem rows_at (a : Vec Ideal S64x1024 .bf16) (b : Vec Ideal S1x64x1024 .bf16) (x : Vec Ideal S64x1024 .bf16) (g : Vec Ideal S1x1024 .bf16)
    (j : S64x1024.Idx) :
    rows a b x g j = normed (fun k => a (ix2 (j 0) k) + b (ix3 0 (j 0) k) + x (ix2 (j 0) k)) (g (ix2 0 (j 1))) (j 1) := by
  unfold rows k0_pay2 k0_pay1 normed
  pointwise

/-- Rows that went along y are the rows themselves, as reals. -/
theorem back_rows (a : Vec Ideal S64x1024 .bf16) (b : Vec Ideal S1x64x1024 .bf16) (x : Vec Ideal S64x1024 .bf16) (g : Vec Ideal S1x1024 .bf16)
    (j : S64x1024.Idx) : back (rowsB a b x g) j = rows a b x g j := by
  unfold back rowsB rows k0_pay3 k0_pay27
  pointwise

/-- Row `i` of a matrix at column `k`, found in the chunk of `i`. -/
theorem place_row {o : Fin 2 → ℕ} {h} (i : S1024x1024.Idx) (k : Fin 1024) (n : ℕ) (ho : o = ![512 * n + 64 * (chunkOf i).val, 0])
    (hn : (i 0).val / 512 = n) : (Rect.unit (s := S1024x1024) o S64x1024.size h).emb (ix2 (inChunk i 0) k) = ix2 (i 0) k := by
  refine Eq.trans ?_ (place (h := h) (ix2 (i 0) k) n ho hn)
  congr 1
  funext a
  fin_cases a <;> rfl

variable (D : Staged Ideal) (c : Dev nD)

/-- What device `c` is given, as matrices. -/
abbrev partials : Vec Ideal S1024x1024 .bf16 := D.p c
abbrev residual : Vec Ideal S1024x1024 .bf16 := D.x c
abbrev scale : Vec Ideal S1x1024 .bf16 := D.g c

/-- What arrives along x holds the neighbour's rows. -/
theorem got_at (i : S1024x1024.Idx) (hi : (i 0).val / 512 = half c) (k : Fin 1024) :
    D.got c (chunkOf i) (ix3 0 (inChunk i 0) k) = D.p (xn c) (ix2 (i 0) k) := by
  have e : D.got c (chunkOf i) (ix3 0 (inChunk i 0) k) = D.sent (xn c) (chunkOf i) (ix2 (inChunk i 0) k) := by
    unfold Staged.got
    pointwise
  rw [e]
  show D.p (xn c) ((sendR (xn c) (chunkOf i)).emb (ix2 (inChunk i 0) k)) = _
  exact congrArg (D.p (xn c)) (place_row i k (1 - half (xn c)) (send_off (xn c) _) (by have := half_lt c; rw [half_xn]; omega))

/-- An element of the device's own half of the result. -/
theorem out_at (i : S1024x1024.Idx) (hi : (i 0).val / 512 = half c) :
    D.out c (chunkOf i) (inChunk i)
      = normed (fun k => partials D c (ix2 (i 0) k) + partials D (xn c) (ix2 (i 0) k) + residual D c (ix2 (i 0) k)) (scale D c (ix2 0 (i 1))) (i 1) := by
  unfold Staged.out
  rw [rows_at]
  have hp (k : Fin 1024) : D.ownP c (chunkOf i) (ix2 (inChunk i 0) k) = D.p c (ix2 (i 0) k) :=
    congrArg (D.p c) (place_row i k (half c) (own_off c _) hi)
  have hx (k : Fin 1024) : D.ownX c (chunkOf i) (ix2 (inChunk i 0) k) = D.x c (ix2 (i 0) k) :=
    congrArg (D.x c) (place_row i k (half c) (own_off c _) hi)
  have hg : D.gam c (ix2 0 (inChunk i 1)) = D.g c (ix2 0 (i 1)) := by
    refine congrArg (D.g c) ?_
    funext a
    apply Fin.ext
    fin_cases a
    · rfl
    · show 0 + 1 * (i 1).val = (i 1).val
      omega
  rw [hg]
  simp only [hp, hx, got_at D c i hi]
  rfl

/-! ## All elements -/

/-- The block of the partial sums that device `c` holds. -/
def blk (c : Dev nD) : Fin 2 := Layout.meshBlock [2, 2, 4] (![[0], [], []] : Fin 3 → List ℕ) c (by decide) 0

/-- Neighbours along x hold the two blocks between them. -/
theorem blk_xn (c : Dev nD) : (blk c = 0 ∧ blk (xn c) = 1) ∨ (blk c = 1 ∧ blk (xn c) = 0) := by
  revert c; decide +kernel

/-- If the devices hold the two blocks of the partial sums, and the residual and the scale whole, every device's result is the reference's. -/
theorem outAt_eq (P : Vec Ideal Cert.ReferenceIdeal.S2x1024x1024 .bf16) (X : Vec Ideal Cert.ReferenceIdeal.S1024x1024 .bf16)
    (G : Vec Ideal Cert.ReferenceIdeal.S1024 .bf16)
    (hp : ∀ c i k, partials D c (ix2 i k) = P (ix3 (blk c) i k)) (hx : ∀ c i k, residual D c (ix2 i k) = X (ix2 i k))
    (hg : ∀ c k, scale D c (ix2 0 k) = G (ix1 k)) : outAt D c = Cert.ReferenceIdeal.Norm.result P X G := by
  have key (d : Dev nD) (i : S1024x1024.Idx) (hi : (i 0).val / 512 = half d) :
      D.out d (chunkOf i) (inChunk i) = Cert.ReferenceIdeal.Norm.result P X G i := by
    rw [out_at D d i hi, Cert.ReferenceIdeal.Norm.result_at]
    refine congrArg₂ (fun y g => normed y g (i 1)) (funext fun k => ?_) (hg d (i 1))
    refine congrArg₂ (fun a b : Ideal .f32 => a + b) ?_ (hx d (i 0) k)
    refine (congrArg₂ (fun a b : Ideal .f32 => a + b) (hp d (i 0) k) (hp (xn d) (i 0) k)).trans ?_
    rcases blk_xn d with ⟨h₀, h₁⟩ | ⟨h₁, h₀⟩
    · rw [h₀, h₁]
    · rw [h₀, h₁]
      exact add_comm (P (ix3 1 (i 0) k) : Ideal .f32) (P (ix3 0 (i 0) k))
  funext i
  show (if (i 0).val / 512 = half c then D.out c (chunkOf i) (inChunk i) else D.far c (chunkOf i) (inChunk i)) = _
  split
  · next h => exact key c i h
  · next h =>
    refine Eq.trans (back_rows _ _ _ _ _) (key (yn c) i ?_)
    have := half_lt c
    have : (i 0).val < 1024 := (i 0).isLt
    rw [half_yn]; omega

/-! ## What the kernel is given -/

/-- Dropping the leading axis of size one keeps the elements. -/
theorem one_block (v : Vec Ideal S1x1024x1024 .bf16) (i k : Fin 1024) :
    shapeCast S1024x1024 v shapeCasts_S1x1024x1024_S1024x1024 (ix2 i k) = v (ix3 0 i k) := by
  pointwise

/-- Adding a leading axis of size one keeps the elements. -/
theorem one_row (v : Vec Ideal S1024 .bf16) (k : Fin 1024) : shapeCast S1x1024 v shapeCasts_S1024_S1x1024 (ix2 0 k) = v (ix1 k) := by
  pointwise

section Given

variable (m : (ℓ : Loc nD τ sig) → Buf (Elt Ideal) ℓ)

/-- The partial sums handed to the kernel are the first argument's one block. -/
theorem given_p (c : Dev nD) (i k : Fin 1024) : (given m).p c (ix2 i k) = m ((c : Thread nD τ).loc main_arg0) (ix3 0 i k) := by
  have e : (given m).p c = shapeCast S1024x1024 (m ((c : Thread nD τ).loc main_arg0)) shapeCasts_S1x1024x1024_S1024x1024 := by
    show StableHlo.after hostOps0 (V₀ m c) (Proc.devRef .tc main_v1) = _
    after_results
    rfl
  exact (congrFun e _).trans (one_block _ i k)

/-- The residual is the second argument. -/
theorem given_x (c : Dev nD) : (given m).x c = m ((c : Thread nD τ).loc main_arg1) := V_main_arg1 m c

/-- The scale is the third argument, as one row. -/
theorem given_g (c : Dev nD) (k : Fin 1024) : (given m).g c (ix2 0 k) = m ((c : Thread nD τ).loc main_arg2) (ix1 k) := by
  have e : (given m).g c = shapeCast S1x1024 (m ((c : Thread nD τ).loc main_arg2)) shapeCasts_S1024_S1x1024 := by
    show StableHlo.after hostOps0 (V₀ m c) (Proc.devRef .tc main_v2) = _
    after_results
    rfl
  exact (congrFun e _).trans (one_row _ k)

end Given

end Cert.KernelIdeal.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import proofs.«01_k».proof.Proof.ReferenceIdeal.Outcome
public import Idealize.ShloMosaic.Adequacy
public import Idealize.ShloMosaic.Init

@[expose] public section

noncomputable section

namespace Cert.Proof

open Idealize.ShloMosaic Idealize.ShloMosaic.TcCoe Idealize.SL.Sem

/-- The program at bf16 and f32 values keeps its arguments and ends with every semaphore at zero. -/
theorem frame_kernel : Cert.quiescent_Kernel := fun m ρ _ =>
  (θ_run _ _ _).mono (fun _ h => ⟨fun c => (h.1 c).1, h.2⟩) (Cert.Kernel.Norm.run_result m ρ)

/-- The program at real numbers keeps its arguments and ends with every semaphore at zero. -/
theorem frame_kernelIdeal : Cert.quiescent_KernelIdeal := fun m ρ _ =>
  (θ_run _ _ _).mono (fun _ h => ⟨fun c => (h.1 c).1, h.2⟩) (Cert.KernelIdeal.Norm.run_result m ρ)

/-- The reference keeps its arguments and ends with every semaphore at zero. -/
theorem frame_reference : Cert.quiescent_ReferenceIdeal := fun m ρ _ =>
  (θ_run _ _ _).mono (fun _ h => ⟨fun c => (h.1 c).2, h.2⟩) (Cert.ReferenceIdeal.Norm.run_result m ρ)

/-- At real numbers every device of the program ends with the reference's result. -/
theorem algebraic : Cert.algebraic_KernelIdeal_ReferenceIdeal := by
  intro m ρ m' ρ' _ same
  refine ⟨Cert.ReferenceIdeal.Norm.result _ _ _,
    (θ_run _ _ _).mono (fun _ h c => ⟨(h.1 c).2.trans ?_, (h.1 c).1⟩) (Cert.KernelIdeal.Norm.run_result m ρ),
    (θ_run _ _ _).mono (fun _ h => h.1 0) (Cert.ReferenceIdeal.Norm.run_result m' ρ')⟩
  refine Cert.KernelIdeal.Norm.outAt_eq _ c _ _ _ (fun d i k => ?_) (fun d i k => ?_) (fun d k => ?_)
  · refine (Cert.KernelIdeal.Norm.given_p m d i k).trans ((congrFun (same d).1 _).trans ?_)
    refine congrArg (m' (((0 : Dev Cert.ReferenceIdeal.nD) : Thread Cert.ReferenceIdeal.nD Cert.ReferenceIdeal.τ).loc Cert.ReferenceIdeal.main_arg0)) ?_
    funext a
    apply Fin.ext
    fin_cases a
    · show (Cert.KernelIdeal.Norm.blk d).val * 1 + 0 = (Cert.KernelIdeal.Norm.blk d).val
      omega
    · show 0 * 1024 + i.val = i.val
      omega
    · show 0 * 1024 + k.val = k.val
      omega
  · exact congrFun ((Cert.KernelIdeal.Norm.given_x m d).trans (same d).2.1) _
  · exact (Cert.KernelIdeal.Norm.given_g m d k).trans (congrFun (same d).2.2 _)

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
